-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_single_edges_and_finite [hPre_single_edges_and_finite : Cert.Pre_single_edges_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_single_edges_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_single_edges_and_finite [hPre_single_edges_and_finite : Cert.Pre_single_edges_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_single_edges_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_single_edges_and_finite [hKernelIdeal : Cert.KernelIdeal.Facts] [hPre_single_edges_and_finite : Cert.Pre_single_edges_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_single_edges_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_single_edges_and_finite [hReferenceIdeal : Cert.ReferenceIdeal.Facts] [hPre_single_edges_and_finite : Cert.Pre_single_edges_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_single_edges_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_block" .f32 0x3CA3D70A#32 ((1 / 50 : ℝ) : EReal)
  ∧ IdealRules.named_const.Statement Cert.KernelIdeal.κ "mask" .f32 0xF149F2CA#32 ⊥

def algebraic_KernelIdeal_ReferenceIdeal_pre_single_edges_and_finite [hKernelIdeal : Cert.KernelIdeal.Facts] [hReferenceIdeal : Cert.ReferenceIdeal.Facts] [hPre_single_edges_and_finite : Cert.Pre_single_edges_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_single_edges_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v137)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_single_edges_and_finite : Cert.Pre_single_edges_and_finite.Facts),
    quiescent_Kernel (hKernel := hKernel)
    ∧ quiescent_KernelIdeal (hKernelIdeal := hKernelIdeal)
    ∧ quiescent_KernelIdeal_pre_single_edges_and_finite (hKernelIdeal := hKernelIdeal) (hPre_single_edges_and_finite := hPre_single_edges_and_finite)
    ∧ quiescent_ReferenceIdeal (hReferenceIdeal := hReferenceIdeal)
    ∧ quiescent_ReferenceIdeal_pre_single_edges_and_finite (hReferenceIdeal := hReferenceIdeal) (hPre_single_edges_and_finite := hPre_single_edges_and_finite)
    ∧ preserves_Kernel_KernelIdeal
    ∧ algebraic_KernelIdeal_ReferenceIdeal_pre_single_edges_and_finite (hKernelIdeal := hKernelIdeal) (hReferenceIdeal := hReferenceIdeal) (hPre_single_edges_and_finite := hPre_single_edges_and_finite)
-- ==== Pre_single_edges_and_finite.lean ====
abbrev S2x10000x256 : Shape := ⟨3, ![2, 10000, 256]⟩
abbrev S2x160000 : Shape := ⟨2, ![2, 160000]⟩
abbrev S160000 : Shape := ⟨1, ![160000]⟩
abbrev S10000x3 : Shape := ⟨2, ![10000, 3]⟩
abbrev S256x768 : Shape := ⟨2, ![256, 768]⟩
abbrev S768 : Shape := ⟨1, ![768]⟩
abbrev S256x256 : Shape := ⟨2, ![256, 256]⟩
abbrev S256 : Shape := ⟨1, ![256]⟩
abbrev S4x8 : Shape := ⟨2, ![4, 8]⟩
abbrev S8 : Shape := ⟨1, ![8]⟩
abbrev S1x160000 : Shape := ⟨2, ![1, 160000]⟩
abbrev S_ : Shape := ⟨0, ![]⟩
abbrev S200x50x50 : Shape := ⟨3, ![200, 50, 50]⟩
abbrev S160000x1 : Shape := ⟨2, ![160000, 1]⟩
abbrev S160000x3 : Shape := ⟨2, ![160000, 3]⟩
abbrev S50x50 : Shape := ⟨2, ![50, 50]⟩
abbrev S1x50x50 : Shape := ⟨3, ![1, 50, 50]⟩
abbrev S256x512 : Shape := ⟨2, ![256, 512]⟩
abbrev S512 : Shape := ⟨1, ![512]⟩

class Facts : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S200x50x50 : S_.BroadcastsInDim S200x50x50 (![] : Fin 0 → Fin S200x50x50.rank)
  bcast_S160000_S160000x1_0 : S160000.BroadcastsInDim S160000x1 (![0] : Fin 1 → Fin S160000x1.rank)
  concatenates_S160000x1_S160000x1_S160000x1_S160000x3_d1 : Shape.Concatenates [S160000x1, S160000x1, S160000x1] S160000x3 1
  bcast_S_S50x50 : S_.BroadcastsInDim S50x50 (![] : Fin 0 → Fin S50x50.rank)
  bcast_S50x50_S1x50x50_1_2 : S50x50.BroadcastsInDim S1x50x50 (![1, 2] : Fin 2 → Fin S1x50x50.rank)
  bcast_S1x50x50_S200x50x50_0_1_2 : S1x50x50.BroadcastsInDim S200x50x50 (![0, 1, 2] : Fin 3 → Fin S200x50x50.rank)
  bcast_S_S2x10000x256 : S_.BroadcastsInDim S2x10000x256 (![] : Fin 0 → Fin S2x10000x256.rank)
  reducesTo_S2x10000x256_S_d0_1_2 : S2x10000x256.ReducesTo [0, 1, 2] S_
  h_S_ : 0 < S_.numel
  slices_S256x768_S256x512_0_0 : S256x768.Slices ![0, 0] S256x512
  bcast_S_S256x512 : S_.BroadcastsInDim S256x512 (![] : Fin 0 → Fin S256x512.rank)
  reducesTo_S256x512_S_d0_1 : S256x512.ReducesTo [0, 1] S_
  slices_S768_S512_0 : S768.Slices ![0] S512
  bcast_S_S512 : S_.BroadcastsInDim S512 (![] : Fin 0 → Fin S512.rank)
  reducesTo_S512_S_d0 : S512.ReducesTo [0] S_
  reducesTo_S160000_S_d0 : S160000.ReducesTo [0] S_
  scatter_S200x50x50_S160000x3_S160000_n_012_012_1_wf : ScatterDims.WF S200x50x50 S160000x3 S160000 [] [0, 1, 2] [0, 1, 2] 1

variable [Facts]

def scatter_S200x50x50_S160000x3_S160000_n_012_012_1 : ScatterDims S200x50x50 S160000x3 S160000 where
  updateWindowDims := []
  insertedWindowDims := [0, 1, 2]
  scatterDimsToOperandDims := [0, 1, 2]
  indexVectorDim := 1
  wf := scatter_S200x50x50_S160000x3_S160000_n_012_012_1_wf
def fn_where {F : FTy → Type} [FloatOps F] (arg0 : IVec S160000 1) (arg1 : IVec S160000 32) (arg2 : IVec S160000 32) : IVec S160000 32 :=
  let v0 : IVec S160000 32 := select arg0 arg1 arg2
  v0

def fn_floor_divide {F : FTy → Type} [FloatOps F] (arg0 : IVec S160000 32) (arg1 : IVec S_ 32) : IVec S160000 32 :=
  let v0 : IVec S_ 32 := id arg1
  let v1 : IVec S160000 32 := broadcastInDim S160000 ![] bcast_S_S160000 v0
  let v2 : IVec S160000 32 := Host.divsi arg0 v1
  let v3 : IVec S160000 32 := signi arg0
  let v4 : IVec S_ 32 := signi v0
  let v5 : IVec S160000 32 := broadcastInDim S160000 ![] bcast_S_S160000 v4
  let v6 : IVec S160000 1 := cmpi .ne v3 v5
  let v7 : IVec S160000 32 := broadcastInDim S160000 ![] bcast_S_S160000 v0
  let v8 : IVec S160000 32 := Host.remsi arg0 v7
  let c : IVec S_ 32 := constantI S_ 32 0#32
  let v9 : IVec S160000 32 := broadcastInDim S160000 ![] bcast_S_S160000 c
  let v10 : IVec S160000 1 := cmpi .ne v8 v9
  let v11 : IVec S160000 1 := andi v6 v10
  let c_0 : IVec S_ 32 := constantI S_ 32 1#32
  let v12 : IVec S160000 32 := broadcastInDim S160000 ![] bcast_S_S160000 c_0
  let v13 : IVec S160000 32 := subi v2 v12
  let v14 : IVec S160000 32 := fn_where (F := F) v11 v13 v2
  v14

def fn_where_0 {F : FTy → Type} [FloatOps F] (arg0 : IVec S160000 1) (arg1 : IVec S160000 32) (arg2 : IVec S_ 32) : IVec S160000 32 :=
  let v0 : IVec S_ 32 := id arg2
  let v1 : IVec S160000 32 := broadcastInDim S160000 ![] bcast_S_S160000 v0
  let v2 : IVec S160000 32 := select arg0 arg1 v1
  v2

def fn_where_1 {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S160000 32) (arg1 : IVec S_ 32) : IVec S160000 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where_1 (F := F) v1 c_0 v0
  let v3 : IVec S160000 32 := broadcastInDim S160000 ![] bcast_S_S160000 v2
  let v4 : IVec S160000 32 := Host.remsi arg0 v3
  let c_1 : IVec S_ 32 := constantI S_ 32 0#32
  let v5 : IVec S160000 32 := broadcastInDim S160000 ![] bcast_S_S160000 c_1
  let v6 : IVec S160000 1 := cmpi .ne v4 v5
  let c_2 : IVec S_ 32 := constantI S_ 32 0#32
  let v7 : IVec S160000 32 := broadcastInDim S160000 ![] bcast_S_S160000 c_2
  let v8 : IVec S160000 1 := cmpi .slt v4 v7
  let c_3 : IVec S_ 32 := constantI S_ 32 0#32
  let v9 : IVec S_ 1 := cmpi .slt v2 c_3
  let v10 : IVec S160000 1 := broadcastInDim S160000 ![] bcast_S_S160000 v9
  let v11 : IVec S160000 1 := cmpi .ne v8 v10
  let v12 : IVec S160000 1 := andi v11 v6
  let v13 : IVec S160000 32 := broadcastInDim S160000 ![] bcast_S_S160000 v2
  let v14 : IVec S160000 32 := addi v4 v13
  let v15 : IVec S160000 32 := select v12 v14 v4
  v15

def fn_part3 {F : FTy → Type} [FloatOps F] (main_arg2 : FVec F S160000 .f32) (main_arg5 : FVec F S768 .f32) (main_v44 : IVec S200x50x50 1) (main_v48 : IVec S_ 1) (main_v52 : IVec S256x512 1) : IVec S200x50x50 1 :=
  let main_c_17 : IVec S_ 1 := constantI S_ 1 1#1
  let main_v53 : IVec S_ 1 := (fun x v => Host.reduce IntOp.andi x v reducesTo_S256x512_S_d0_1 h_S_) main_v52 main_c_17
  let main_v54 : IVec S_ 1 := andi main_v48 main_v53
  let main_v55 : FVec F S512 .f32 := (extractStridedSlice S512 ![0] · slices_S768_S512_0) main_arg5
  let main_v56 : FVec F S512 .f32 := Host.absf main_v55
  let main_cst_18 : FVec F S_ .f32 := constant S_ .f32 0x7F800000#32
  let main_v57 : FVec F S512 .f32 := broadcastInDim S512 ![] bcast_S_S512 main_cst_18
  let main_v58 : IVec S512 1 := cmpf .olt main_v56 main_v57
  let main_c_19 : IVec S_ 1 := constantI S_ 1 1#1
  let main_v59 : IVec S_ 1 := (fun x v => Host.reduce IntOp.andi x v reducesTo_S512_S_d0 h_S_) main_v58 main_c_19
  let main_v60 : IVec S_ 1 := andi main_v54 main_v59
  let main_cst_20 : FVec F S_ .f32 := constant S_ .f32 0x7F800000#32
  let main_v61 : FVec F S160000 .f32 := broadcastInDim S160000 ![] bcast_S_S160000 main_cst_20
  let main_v62 : IVec S160000 1 := cmpf .olt main_arg2 main_v61
  let main_c_21 : IVec S_ 1 := constantI S_ 1 1#1
  let main_v63 : IVec S_ 1 := (fun x v => Host.reduce IntOp.andi x v reducesTo_S160000_S_d0 h_S_) main_v62 main_c_21
  let main_v64 : IVec S_ 1 := andi main_v60 main_v63
  let main_v65 : IVec S200x50x50 1 := broadcastInDim S200x50x50 ![] bcast_S_S200x50x50 main_v64
  let main_v66 : IVec S200x50x50 1 := andi main_v44 main_v65
  main_v66

def fn_part2 {F : FTy → Type} [FloatOps F] (main_arg0 : FVec F S2x10000x256 .f32) (main_arg2 : FVec F S160000 .f32) (main_arg4 : FVec F S256x768 .f32) (main_arg5 : FVec F S768 .f32) (main_v11 : IVec S200x50x50 32) (main_v32 : IVec S160000x3 32) (main_v33 : IVec S160000 32) : IVec S200x50x50 1 :=
  let main_v34 : IVec S200x50x50 32 := (fun x i u => Host.scatter scatter_S200x50x50_S160000x3_S160000_n_012_012_1 IntOp.addi x i u) main_v11 main_v32 main_v33
  let main_c_13 : IVec S_ 32 := constantI S_ 32 1#32
  let main_v35 : IVec S200x50x50 32 := broadcastInDim S200x50x50 ![] bcast_S_S200x50x50 main_c_13
  let main_v36 : IVec S200x50x50 1 := cmpi .sle main_v34 main_v35
  let main_v37 : IVec S50x50 32 := iotaInDim S50x50 32 0
  let main_v38 : IVec S50x50 32 := iotaInDim S50x50 32 1
  let main_c_14 : IVec S_ 32 := constantI S_ 32 0#32
  let main_v39 : IVec S50x50 32 := broadcastInDim S50x50 ![] bcast_S_S50x50 main_c_14
  let main_v40 : IVec S50x50 32 := addi main_v37 main_v39
  let main_v41 : IVec S50x50 1 := cmpi .eq main_v40 main_v38
  let main_v42 : IVec S1x50x50 1 := broadcastInDim S1x50x50 ![1, 2] bcast_S50x50_S1x50x50_1_2 main_v41
  let main_v43 : IVec S200x50x50 1 := broadcastInDim S200x50x50 ![0, 1, 2] bcast_S1x50x50_S200x50x50_0_1_2 main_v42
  let main_v44 : IVec S200x50x50 1 := ori main_v36 main_v43
  let main_v45 : FVec F S2x10000x256 .f32 := Host.absf main_arg0
  let main_cst : FVec F S_ .f32 := constant S_ .f32 0x7F800000#32
  let main_v46 : FVec F S2x10000x256 .f32 := broadcastInDim S2x10000x256 ![] bcast_S_S2x10000x256 main_cst
  let main_v47 : IVec S2x10000x256 1 := cmpf .olt main_v45 main_v46
  let main_c_15 : IVec S_ 1 := constantI S_ 1 1#1
  let main_v48 : IVec S_ 1 := (fun x v => Host.reduce IntOp.andi x v reducesTo_S2x10000x256_S_d0_1_2 h_S_) main_v47 main_c_15
  let main_v49 : FVec F S256x512 .f32 := (extractStridedSlice S256x512 ![0, 0] · slices_S256x768_S256x512_0_0) main_arg4
  let main_v50 : FVec F S256x512 .f32 := Host.absf main_v49
  let main_cst_16 : FVec F S_ .f32 := constant S_ .f32 0x7F800000#32
  let main_v51 : FVec F S256x512 .f32 := broadcastInDim S256x512 ![] bcast_S_S256x512 main_cst_16
  let main_v52 : IVec S256x512 1 := cmpf .olt main_v50 main_v51
  fn_part3 (F := F) main_arg2 main_arg5 main_v44 main_v48 main_v52

def fn_part1 {F : FTy → Type} [FloatOps F] (main_arg0 : FVec F S2x10000x256 .f32) (main_arg2 : FVec F S160000 .f32) (main_arg4 : FVec F S256x768 .f32) (main_arg5 : FVec F S768 .f32) (main_v10 : IVec S160000 32) (main_v11 : IVec S200x50x50 32) (main_v12 : IVec S160000 32) (main_v13 : IVec S160000 32) (main_v15 : IVec S160000 1) : IVec S200x50x50 1 :=
  let main_c_7 : IVec S_ 32 := constantI S_ 32 200#32
  let main_v16 : IVec S160000 32 := broadcastInDim S160000 ![] bcast_S_S160000 main_c_7
  let main_v17 : IVec S160000 32 := addi main_v10 main_v16
  let main_v18 : IVec S160000 32 := select main_v15 main_v17 main_v10
  let main_c_8 : IVec S_ 32 := constantI S_ 32 0#32
  let main_v19 : IVec S160000 32 := broadcastInDim S160000 ![] bcast_S_S160000 main_c_8
  let main_v20 : IVec S160000 1 := cmpi .slt main_v12 main_v19
  let main_c_9 : IVec S_ 32 := constantI S_ 32 50#32
  let main_v21 : IVec S160000 32 := broadcastInDim S160000 ![] bcast_S_S160000 main_c_9
  let main_v22 : IVec S160000 32 := addi main_v12 main_v21
  let main_v23 : IVec S160000 32 := select main_v20 main_v22 main_v12
  let main_c_10 : IVec S_ 32 := constantI S_ 32 0#32
  let main_v24 : IVec S160000 32 := broadcastInDim S160000 ![] bcast_S_S160000 main_c_10
  let main_v25 : IVec S160000 1 := cmpi .slt main_v13 main_v24
  let main_c_11 : IVec S_ 32 := constantI S_ 32 50#32
  let main_v26 : IVec S160000 32 := broadcastInDim S160000 ![] bcast_S_S160000 main_c_11
  let main_v27 : IVec S160000 32 := addi main_v13 main_v26
  let main_v28 : IVec S160000 32 := select main_v25 main_v27 main_v13
  let main_v29 : IVec S160000x1 32 := broadcastInDim S160000x1 ![0] bcast_S160000_S160000x1_0 main_v18
  let main_v30 : IVec S160000x1 32 := broadcastInDim S160000x1 ![0] bcast_S160000_S160000x1_0 main_v23
  let main_v31 : IVec S160000x1 32 := broadcastInDim S160000x1 ![0] bcast_S160000_S160000x1_0 main_v28
  let main_v32 : IVec S160000x3 32 := concatenate S160000x3 1 [⟨S160000x1, main_v29⟩, ⟨S160000x1, main_v30⟩, ⟨S160000x1, main_v31⟩] concatenates_S160000x1_S160000x1_S160000x1_S160000x3_d1
  let main_c_12 : IVec S_ 32 := constantI S_ 32 1#32
  let main_v33 : IVec S160000 32 := broadcastInDim S160000 ![] bcast_S_S160000 main_c_12
  fn_part2 (F := F) main_arg0 main_arg2 main_arg4 main_arg5 main_v11 main_v32 main_v33

def fn {F : FTy → Type} [FloatOps F] (main_arg0 : FVec F S2x10000x256 .f32) (main_arg1 : IVec S2x160000 32) (main_arg2 : FVec F S160000 .f32) (main_arg3 : FVec F S10000x3 .f32) (main_arg4 : FVec F S256x768 .f32) (main_arg5 : FVec F S768 .f32) (main_arg6 : FVec F S256x256 .f32) (main_arg7 : FVec F S256 .f32) (main_arg8 : FVec F S4x8 .f32) (main_arg9 : FVec F S8 .f32) : IVec S200x50x50 1 :=
  let main_v0 : IVec S1x160000 32 := (extractStridedSlice S1x160000 ![0, 0] · slices_S2x160000_S1x160000_0_0) main_arg1
  let main_v1 : IVec S160000 32 := shapeCast S160000 main_v0 shapeCasts_S1x160000_S160000
  let main_v2 : IVec S1x160000 32 := (extractStridedSlice S1x160000 ![1, 0] · slices_S2x160000_S1x160000_1_0) main_arg1
  let main_v3 : IVec S160000 32 := shapeCast S160000 main_v2 shapeCasts_S1x160000_S160000
  let main_c : IVec S_ 32 := constantI S_ 32 50#32
  let main_v4 : IVec S160000 32 := fn_floor_divide (F := F) main_v1 main_c
  let main_c_0 : IVec S_ 32 := constantI S_ 32 50#32
  let main_v5 : IVec S160000 32 := fn_floor_divide (F := F) main_v3 main_c_0
  let main_v6 : IVec S160000 1 := cmpi .eq main_v4 main_v5
  let main_c_1 : IVec S_ 32 := constantI S_ 32 200#32
  let main_v7 : IVec S160000 32 := broadcastInDim S160000 ![] bcast_S_S160000 main_c_1
  let main_v8 : IVec S160000 1 := cmpi .slt main_v4 main_v7
  let main_v9 : IVec S160000 1 := andi main_v6 main_v8
  let main_c_2 : IVec S_ 32 := constantI S_ 32 200#32
  let main_v10 : IVec S160000 32 := fn_where_0 (F := F) main_v9 main_v4 main_c_2
  let main_c_3 : IVec S_ 32 := constantI S_ 32 0#32
  let main_v11 : IVec S200x50x50 32 := broadcastInDim S200x50x50 ![] bcast_S_S200x50x50 main_c_3
  let main_c_4 : IVec S_ 32 := constantI S_ 32 50#32
  let main_v12 : IVec S160000 32 := fn_remainder (F := F) main_v1 main_c_4
  let main_c_5 : IVec S_ 32 := constantI S_ 32 50#32
  let main_v13 : IVec S160000 32 := fn_remainder (F := F) main_v3 main_c_5
  let main_c_6 : IVec S_ 32 := constantI S_ 32 0#32
  let main_v14 : IVec S160000 32 := broadcastInDim S160000 ![] bcast_S_S160000 main_c_6
  let main_v15 : IVec S160000 1 := cmpi .slt main_v10 main_v14
  fn_part1 (F := F) main_arg0 main_arg2 main_arg4 main_arg5 main_v10 main_v11 main_v12 main_v13 main_v15
-- ==== Kernel.lean ====
abbrev S2x10000x256 : Shape := ⟨3, ![2, 10000, 256]⟩
abbrev S2x160000 : Shape := ⟨2, ![2, 160000]⟩
abbrev S160000 : Shape := ⟨1, ![160000]⟩
abbrev S10000x3 : Shape := ⟨2, ![10000, 3]⟩
abbrev S256x768 : Shape := ⟨2, ![256, 768]⟩
abbrev S768 : Shape := ⟨1, ![768]⟩
abbrev S256x256 : Shape := ⟨2, ![256, 256]⟩
abbrev S256 : Shape := ⟨1, ![256]⟩
abbrev S4x8 : Shape := ⟨2, ![4, 8]⟩
abbrev S8 : Shape := ⟨1, ![8]⟩
abbrev S2x200x50x256 : Shape := ⟨4, ![2, 200, 50, 256]⟩
abbrev S1x160000 : Shape := ⟨2, ![1, 160000]⟩
abbrev S_ : Shape := ⟨0, ![]⟩
abbrev S160000x1 : Shape := ⟨2, ![160000, 1]⟩
abbrev S160000x3 : Shape := ⟨2, ![160000, 3]⟩
abbrev S200x56x64 : Shape := ⟨3, ![200, 56, 64]⟩
abbrev S1x768 : Shape := ⟨2, ![1, 768]⟩
abbrev S1x256 : Shape := ⟨2, ![1, 256]⟩
abbrev S1x8 : Shape := ⟨2, ![1, 8]⟩
abbrev S1x4x50x256 : Shape := ⟨4, ![1, 4, 50, 256]⟩
abbrev S4x56x64 : Shape := ⟨3, ![4, 56, 64]⟩
abbrev S224x256 : Shape := ⟨2, ![224, 256]⟩
abbrev S4x50x256 : Shape := ⟨3, ![4, 50, 256]⟩
abbrev S4x256 : Shape := ⟨2, ![4, 256]⟩
abbrev S13x256 : Shape := ⟨2, ![13, 256]⟩
abbrev S1x50x256 : Shape := ⟨3, ![1, 50, 256]⟩
abbrev S50x256 : Shape := ⟨2, ![50, 256]⟩
abbrev S56x64 : Shape := ⟨2, ![56, 64]⟩
abbrev S1x56x64 : Shape := ⟨3, ![1, 56, 64]⟩
abbrev S56x256 : Shape := ⟨2, ![56, 256]⟩
abbrev S64x256 : Shape := ⟨2, ![64, 256]⟩
abbrev S56x32 : Shape := ⟨2, ![56, 32]⟩
abbrev S64x32 : Shape := ⟨2, ![64, 32]⟩
abbrev S56 : Shape := ⟨1, ![56]⟩
abbrev S56x1 : Shape := ⟨2, ![56, 1]⟩
abbrev S1x1 : Shape := ⟨2, ![1, 1]⟩
abbrev S1x1x50x256 : Shape := ⟨4, ![1, 1, 50, 256]⟩

abbrev nBuf : Space → Nat
  | .hbm => 263
  | .vmem => 20
  | .smem => 2
  | _ => 0

abbrev hbmTy0_0 (i : Nat) : BufTy := match i % 128 with
  | 0 => ⟨S2x10000x256, .f32⟩
  | 1 => ⟨S2x160000, .i32⟩
  | 2 => ⟨S160000, .f32⟩
  | 3 => ⟨S10000x3, .f32⟩
  | 4 => ⟨S256x768, .f32⟩
  | 5 => ⟨S768, .f32⟩
  | 6 => ⟨S256x256, .f32⟩
  | 7 => ⟨S256, .f32⟩
  | 8 => ⟨S4x8, .f32⟩
  | 9 => ⟨S8, .f32⟩
  | 10 => ⟨S2x200x50x256, .f32⟩
  | 11 => ⟨S1x160000, .i32⟩
  | 12 => ⟨S160000, .i32⟩
  | 13 => ⟨S1x160000, .i32⟩
  | 14 => ⟨S160000, .i32⟩
  | 15 => ⟨S_, .i32⟩
  | 16 => ⟨S_, .i32⟩
  | 17 => ⟨S160000, .i32⟩
  | 18 => ⟨S160000, .i32⟩
  | 19 => ⟨S160000, .i32⟩
  | 20 => ⟨S_, .i32⟩
  | 21 => ⟨S160000, .i32⟩
  | 22 => ⟨S160000, .i1⟩
  | 23 => ⟨S160000, .i32⟩
  | 24 => ⟨S160000, .i32⟩
  | 25 => ⟨S_, .i32⟩
  | 26 => ⟨S160000, .i32⟩
  | 27 => ⟨S160000, .i1⟩
  | 28 => ⟨S160000, .i1⟩
  | 29 => ⟨S_, .i32⟩
  | 30 => ⟨S160000, .i32⟩
  | 31 => ⟨S160000, .i32⟩
  | 32 => ⟨S160000, .i32⟩
  | 33 => ⟨S_, .i32⟩
  | 34 => ⟨S_, .i32⟩
  | 35 => ⟨S160000, .i32⟩
  | 36 => ⟨S160000, .i32⟩
  | 37 => ⟨S160000, .i32⟩
  | 38 => ⟨S_, .i32⟩
  | 39 => ⟨S160000, .i32⟩
  | 40 => ⟨S160000, .i1⟩
  | 41 => ⟨S160000, .i32⟩
  | 42 => ⟨S160000, .i32⟩
  | 43 => ⟨S_, .i32⟩
  | 44 => ⟨S160000, .i32⟩
  | 45 => ⟨S160000, .i1⟩
  | 46 => ⟨S160000, .i1⟩
  | 47 => ⟨S_, .i32⟩
  | 48 => ⟨S160000, .i32⟩
  | 49 => ⟨S160000, .i32⟩
  | 50 => ⟨S160000, .i32⟩
  | 51 => ⟨S160000, .i1⟩
  | 52 => ⟨S_, .i32⟩
  | 53 => ⟨S_, .i32⟩
  | 54 => ⟨S160000, .i32⟩
  | 55 => ⟨S160000, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S160000, .i32⟩
  | 63 => ⟨S160000, .i32⟩
  | 64 => ⟨S_, .i32⟩
  | 65 => ⟨S160000, .i32⟩
  | 66 => ⟨S160000, .i1⟩
  | 67 => ⟨S_, .i32⟩
  | 68 => ⟨S160000, .i32⟩
  | 69 => ⟨S160000, .i1⟩
  | 70 => ⟨S_, .i32⟩
  | 71 => ⟨S_, .i1⟩
  | 72 => ⟨S160000, .i1⟩
  | 73 => ⟨S160000, .i1⟩
  | 74 => ⟨S160000, .i1⟩
  | 75 => ⟨S160000, .i32⟩
  | 76 => ⟨S160000, .i32⟩
  | 77 => ⟨S160000, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S160000, .i32⟩
  | 85 => ⟨S160000, .i32⟩
  | 86 => ⟨S_, .i32⟩
  | 87 => ⟨S160000, .i32⟩
  | 88 => ⟨S160000, .i1⟩
  | 89 => ⟨S_, .i32⟩
  | 90 => ⟨S160000, .i32⟩
  | 91 => ⟨S160000, .i1⟩
  | 92 => ⟨S_, .i32⟩
  | 93 => ⟨S_, .i1⟩
  | 94 => ⟨S160000, .i1⟩
  | 95 => ⟨S160000, .i1⟩
  | 96 => ⟨S160000, .i1⟩
  | 97 => ⟨S160000, .i32⟩
  | 98 => ⟨S160000, .i32⟩
  | 99 => ⟨S160000, .i32⟩
  | 100 => ⟨S_, .i32⟩
  | 101 => ⟨S160000, .i32⟩
  | 102 => ⟨S160000, .i1⟩
  | 103 => ⟨S_, .i32⟩
  | 104 => ⟨S160000, .i32⟩
  | 105 => ⟨S160000, .i32⟩
  | 106 => ⟨S160000, .i32⟩
  | 107 => ⟨S160000x1, .i32⟩
  | 108 => ⟨S160000x3, .f32⟩
  | 109 => ⟨S_, .i32⟩
  | 110 => ⟨S160000, .i32⟩
  | 111 => ⟨S160000, .i1⟩
  | 112 => ⟨S_, .i32⟩
  | 113 => ⟨S160000, .i32⟩
  | 114 => ⟨S160000, .i32⟩
  | 115 => ⟨S160000, .i32⟩
  | 116 => ⟨S160000x1, .i32⟩
  | 117 => ⟨S160000x3, .f32⟩
  | 118 => ⟨S160000x3, .f32⟩
  | 119 => ⟨S_, .f32⟩
  | 120 => ⟨S200x56x64, .f32⟩
  | 121 => ⟨S_, .i32⟩
  | 122 => ⟨S160000, .i32⟩
  | 123 => ⟨S160000, .i1⟩
  | 124 => ⟨S_, .i32⟩
  | 125 => ⟨S160000, .i32⟩
  | 126 => ⟨S160000, .i32⟩
  | 127 => ⟨S160000, .i32⟩
  | _ => ⟨S2x10000x256, .f32⟩

abbrev hbmTy0_1 (i : Nat) : BufTy := match i % 128 with
  | 0 => ⟨S_, .i32⟩
  | 1 => ⟨S160000, .i32⟩
  | 2 => ⟨S160000, .i1⟩
  | 3 => ⟨S_, .i32⟩
  | 4 => ⟨S160000, .i32⟩
  | 5 => ⟨S160000, .i32⟩
  | 6 => ⟨S160000, .i32⟩
  | 7 => ⟨S_, .i32⟩
  | 8 => ⟨S160000, .i32⟩
  | 9 => ⟨S160000, .i1⟩
  | 10 => ⟨S_, .i32⟩
  | 11 => ⟨S160000, .i32⟩
  | 12 => ⟨S160000, .i32⟩
  | 13 => ⟨S160000, .i32⟩
  | 14 => ⟨S160000x1, .i32⟩
  | 15 => ⟨S160000x1, .i32⟩
  | 16 => ⟨S160000x1, .i32⟩
  | 17 => ⟨S160000x3, .i32⟩
  | 18 => ⟨S_, .f32⟩
  | 19 => ⟨S160000, .f32⟩
  | 20 => ⟨S200x56x64, .f32⟩
  | 21 => ⟨S160000x1, .f32⟩
  | 22 => ⟨S160000, .f32⟩
  | 23 => ⟨S_, .i32⟩
  | 24 => ⟨S160000, .i32⟩
  | 25 => ⟨S160000, .i1⟩
  | 26 => ⟨S_, .i32⟩
  | 27 => ⟨S160000, .i32⟩
  | 28 => ⟨S160000, .i32⟩
  | 29 => ⟨S160000, .i32⟩
  | 30 => ⟨S_, .i32⟩
  | 31 => ⟨S160000, .i32⟩
  | 32 => ⟨S160000, .i1⟩
  | 33 => ⟨S_, .i32⟩
  | 34 => ⟨S160000, .i32⟩
  | 35 => ⟨S160000, .i32⟩
  | 36 => ⟨S160000, .i32⟩
  | 37 => ⟨S_, .i32⟩
  | 38 => ⟨S160000, .i32⟩
  | 39 => ⟨S160000, .i1⟩
  | 40 => ⟨S_, .i32⟩
  | 41 => ⟨S160000, .i32⟩
  | 42 => ⟨S160000, .i32⟩
  | 43 => ⟨S160000, .i32⟩
  | 44 => ⟨S160000x1, .i32⟩
  | 45 => ⟨S160000x1, .i32⟩
  | 46 => ⟨S160000x1, .i32⟩
  | 47 => ⟨S160000x3, .i32⟩
  | 48 => ⟨S200x56x64, .f32⟩
  | 49 => ⟨S160000x1, .f32⟩
  | 50 => ⟨S160000, .f32⟩
  | 51 => ⟨S_, .i32⟩
  | 52 => ⟨S160000, .i32⟩
  | 53 => ⟨S160000, .i1⟩
  | 54 => ⟨S_, .i32⟩
  | 55 => ⟨S160000, .i32⟩
  | 56 => ⟨S160000, .i32⟩
  | 57 => ⟨S160000, .i32⟩
  | 58 => ⟨S_, .i32⟩
  | 59 => ⟨S160000, .i32⟩
  | 60 => ⟨S160000, .i1⟩
  | 61 => ⟨S_, .i32⟩
  | 62 => ⟨S160000, .i32⟩
  | 63 => ⟨S160000, .i32⟩
  | 64 => ⟨S160000, .i32⟩
  | 65 => ⟨S_, .i32⟩
  | 66 => ⟨S160000, .i32⟩
  | 67 => ⟨S160000, .i1⟩
  | 68 => ⟨S_, .i32⟩
  | 69 => ⟨S160000, .i32⟩
  | 70 => ⟨S160000, .i32⟩
  | 71 => ⟨S160000, .i32⟩
  | 72 => ⟨S160000x1, .i32⟩
  | 73 => ⟨S160000x1, .i32⟩
  | 74 => ⟨S160000x1, .i32⟩
  | 75 => ⟨S160000x3, .i32⟩
  | 76 => ⟨S200x56x64, .f32⟩
  | 77 => ⟨S160000x1, .f32⟩
  | 78 => ⟨S160000, .f32⟩
  | 79 => ⟨S_, .i32⟩
  | 80 => ⟨S160000, .i32⟩
  | 81 => ⟨S160000, .i1⟩
  | 82 => ⟨S_, .i32⟩
  | 83 => ⟨S160000, .i32⟩
  | 84 => ⟨S160000, .i32⟩
  | 85 => ⟨S160000, .i32⟩
  | 86 => ⟨S_, .i32⟩
  | 87 => ⟨S160000, .i32⟩
  | 88 => ⟨S160000, .i1⟩
  | 89 => ⟨S_, .i32⟩
  | 90 => ⟨S160000, .i32⟩
  | 91 => ⟨S160000, .i32⟩
  | 92 => ⟨S160000, .i32⟩
  | 93 => ⟨S_, .i32⟩
  | 94 => ⟨S160000, .i32⟩
  | 95 => ⟨S160000, .i1⟩
  | 96 => ⟨S_, .i32⟩
  | 97 => ⟨S160000, .i32⟩
  | 98 => ⟨S160000, .i32⟩
  | 99 => ⟨S160000, .i32⟩
  | 100 => ⟨S160000x1, .i32⟩
  | 101 => ⟨S160000x1, .i32⟩
  | 102 => ⟨S160000x1, .i32⟩
  | 103 => ⟨S160000x3, .i32⟩
  | 104 => ⟨S200x56x64, .f32⟩
  | 105 => ⟨S_, .i32⟩
  | 106 => ⟨S160000, .i32⟩
  | 107 => ⟨S160000, .i1⟩
  | 108 => ⟨S_, .i32⟩
  | 109 => ⟨S160000, .i32⟩
  | 110 => ⟨S160000, .i32⟩
  | 111 => ⟨S160000, .i32⟩
  | 112 => ⟨S_, .i32⟩
  | 113 => ⟨S160000, .i32⟩
  | 114 => ⟨S160000, .i1⟩
  | 115 => ⟨S_, .i32⟩
  | 116 => ⟨S160000, .i32⟩
  | 117 => ⟨S160000, .i32⟩
  | 118 => ⟨S160000, .i32⟩
  | 119 => ⟨S_, .i32⟩
  | 120 => ⟨S160000, .i32⟩
  | 121 => ⟨S160000, .i1⟩
  | 122 => ⟨S_, .i32⟩
  | 123 => ⟨S160000, .i32⟩
  | 124 => ⟨S160000, .i32⟩
  | 125 => ⟨S160000, .i32⟩
  | 126 => ⟨S160000x1, .i32⟩
  | 127 => ⟨S160000x1, .i32⟩
  | _ => ⟨S2x10000x256, .f32⟩

abbrev hbmTy0_2 (i : Nat) : BufTy := match i % 128 with
  | 0 => ⟨S160000x1, .i32⟩
  | 1 => ⟨S160000x3, .i32⟩
  | 2 => ⟨S200x56x64, .f32⟩
  | 3 => ⟨S1x768, .f32⟩
  | 4 => ⟨S1x256, .f32⟩
  | 5 => ⟨S1x8, .f32⟩
  | 6 => ⟨S2x200x50x256, .f32⟩
  | _ => ⟨S2x10000x256, .f32⟩

abbrev hbmTy (i : Nat) : BufTy := match i / 128 with
  | 0 => hbmTy0_0 i
  | 1 => hbmTy0_1 i
  | 2 => hbmTy0_2 i
  | _ => ⟨S2x10000x256, .f32⟩

abbrev bufTy : (tb : Table) → Fin (tcTables nBuf tb) → BufTy
  | .hbm, ⟨i, _⟩ => hbmTy i
  | .local _ .vmem, ⟨0, _⟩ => ⟨S1x4x50x256, .f32⟩
  | .local _ .vmem, ⟨1, _⟩ => ⟨S1x4x50x256, .f32⟩
  | .local _ .vmem, ⟨2, _⟩ => ⟨S4x56x64, .f32⟩
  | .local _ .vmem, ⟨3, _⟩ => ⟨S4x56x64, .f32⟩
  | .local _ .vmem, ⟨4, _⟩ => ⟨S4x56x64, .f32⟩
  | .local _ .vmem, ⟨5, _⟩ => ⟨S4x56x64, .f32⟩
  | .local _ .vmem, ⟨6, _⟩ => ⟨S4x56x64, .f32⟩
  | .local _ .vmem, ⟨7, _⟩ => ⟨S4x56x64, .f32⟩
  | .local _ .vmem, ⟨8, _⟩ => ⟨S4x56x64, .f32⟩
  | .local _ .vmem, ⟨9, _⟩ => ⟨S4x56x64, .f32⟩
  | .local _ .vmem, ⟨10, _⟩ => ⟨S4x56x64, .f32⟩
  | .local _ .vmem, ⟨11, _⟩ => ⟨S4x56x64, .f32⟩
  | .local _ .vmem, ⟨12, _⟩ => ⟨S256x768, .f32⟩
  | .local _ .vmem, ⟨13, _⟩ => ⟨S1x768, .f32⟩
  | .local _ .vmem, ⟨14, _⟩ => ⟨S256x256, .f32⟩
  | .local _ .vmem, ⟨15, _⟩ => ⟨S1x256, .f32⟩
  | .local _ .vmem, ⟨16, _⟩ => ⟨S1x4x50x256, .f32⟩
  | .local _ .vmem, ⟨17, _⟩ => ⟨S1x4x50x256, .f32⟩
  | .local _ .vmem, ⟨18, _⟩ => ⟨S256x256, .f32⟩
  | .local _ .vmem, ⟨19, _⟩ => ⟨S224x256, .f32⟩
  | .local _ .smem, ⟨0, _⟩ => ⟨S4x8, .f32⟩
  | .local _ .smem, ⟨1, _⟩ => ⟨S1x8, .f32⟩
  | _, _ => ⟨S2x10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v5 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v6 : Ref sig .tc := ⟨.hbm, 50, rfl⟩
abbrev main_v7 : Ref sig .tc := ⟨.hbm, 51, rfl⟩
abbrev main_c_1 : Ref sig .tc := ⟨.hbm, 52, rfl⟩
abbrev main_call2_v0 : Ref sig .tc := ⟨.hbm, 53, rfl⟩
abbrev main_call2_v1 : Ref sig .tc := ⟨.hbm, 54, rfl⟩
abbrev main_v8 : Ref sig .tc := ⟨.hbm, 55, rfl⟩
abbrev main_c_2 : Ref sig .tc := ⟨.hbm, 56, rfl⟩
abbrev main_call3_v0 : Ref sig .tc := ⟨.hbm, 57, rfl⟩
abbrev main_call3_c : Ref sig .tc := ⟨.hbm, 58, rfl⟩
abbrev main_call3_v1 : Ref sig .tc := ⟨.hbm, 59, rfl⟩
abbrev main_call3_c_0 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_c_1 : Ref sig .tc := ⟨.hbm, 64, rfl⟩
abbrev main_call3_v5 : Ref sig .tc := ⟨.hbm, 65, rfl⟩
abbrev main_call3_v6 : Ref sig .tc := ⟨.hbm, 66, rfl⟩
abbrev main_call3_c_2 : Ref sig .tc := ⟨.hbm, 67, rfl⟩
abbrev main_call3_v7 : Ref sig .tc := ⟨.hbm, 68, rfl⟩
abbrev main_call3_v8 : Ref sig .tc := ⟨.hbm, 69, rfl⟩
abbrev main_call3_c_3 : Ref sig .tc := ⟨.hbm, 70, rfl⟩
abbrev main_call3_v9 : Ref sig .tc := ⟨.hbm, 71, rfl⟩
abbrev main_call3_v10 : Ref sig .tc := ⟨.hbm, 72, rfl⟩
abbrev main_call3_v11 : Ref sig .tc := ⟨.hbm, 73, rfl⟩
abbrev main_call3_v12 : Ref sig .tc := ⟨.hbm, 74, rfl⟩
abbrev main_call3_v13 : Ref sig .tc := ⟨.hbm, 75, rfl⟩
abbrev main_call3_v14 : Ref sig .tc := ⟨.hbm, 76, rfl⟩
abbrev main_v9 : Ref sig .tc := ⟨.hbm, 77, rfl⟩
abbrev main_c_3 : Ref sig .tc := ⟨.hbm, 78, rfl⟩
abbrev main_call4_v0 : Ref sig .tc := ⟨.hbm, 79, rfl⟩
abbrev main_call4_c : Ref sig .tc := ⟨.hbm, 80, rfl⟩
abbrev main_call4_v1 : Ref sig .tc := ⟨.hbm, 81, rfl⟩
abbrev main_call4_c_0 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_call4_c_1 : Ref sig .tc := ⟨.hbm, 86, rfl⟩
abbrev main_call4_v5 : Ref sig .tc := ⟨.hbm, 87, rfl⟩
abbrev main_call4_v6 : Ref sig .tc := ⟨.hbm, 88, rfl⟩
abbrev main_call4_c_2 : Ref sig .tc := ⟨.hbm, 89, rfl⟩
abbrev main_call4_v7 : Ref sig .tc := ⟨.hbm, 90, rfl⟩
abbrev main_call4_v8 : Ref sig .tc := ⟨.hbm, 91, rfl⟩
abbrev main_call4_c_3 : Ref sig .tc := ⟨.hbm, 92, rfl⟩
abbrev main_call4_v9 : Ref sig .tc := ⟨.hbm, 93, rfl⟩
abbrev main_call4_v10 : Ref sig .tc := ⟨.hbm, 94, rfl⟩
abbrev main_call4_v11 : Ref sig .tc := ⟨.hbm, 95, rfl⟩
abbrev main_call4_v12 : Ref sig .tc := ⟨.hbm, 96, rfl⟩
abbrev main_call4_v13 : Ref sig .tc := ⟨.hbm, 97, rfl⟩
abbrev main_call4_v14 : Ref sig .tc := ⟨.hbm, 98, rfl⟩
abbrev main_v10 : Ref sig .tc := ⟨.hbm, 99, rfl⟩
abbrev main_c_4 : Ref sig .tc := ⟨.hbm, 100, rfl⟩
abbrev main_v11 : Ref sig .tc := ⟨.hbm, 101, rfl⟩
abbrev main_v12 : Ref sig .tc := ⟨.hbm, 102, rfl⟩
abbrev main_c_5 : Ref sig .tc := ⟨.hbm, 103, rfl⟩
abbrev main_v13 : Ref sig .tc := ⟨.hbm, 104, rfl⟩
abbrev main_v14 : Ref sig .tc := ⟨.hbm, 105, rfl⟩
abbrev main_v15 : Ref sig .tc := ⟨.hbm, 106, rfl⟩
abbrev main_v16 : Ref sig .tc := ⟨.hbm, 107, rfl⟩
abbrev main_v17 : Ref sig .tc := ⟨.hbm, 108, rfl⟩
abbrev main_c_6 : Ref sig .tc := ⟨.hbm, 109, rfl⟩
abbrev main_v18 : Ref sig .tc := ⟨.hbm, 110, rfl⟩
abbrev main_v19 : Ref sig .tc := ⟨.hbm, 111, rfl⟩
abbrev main_c_7 : Ref sig .tc := ⟨.hbm, 112, rfl⟩
abbrev main_v20 : Ref sig .tc := ⟨.hbm, 113, rfl⟩
abbrev main_v21 : Ref sig .tc := ⟨.hbm, 114, rfl⟩
abbrev main_v22 : Ref sig .tc := ⟨.hbm, 115, rfl⟩
abbrev main_v23 : Ref sig .tc := ⟨.hbm, 116, rfl⟩
abbrev main_v24 : Ref sig .tc := ⟨.hbm, 117, rfl⟩
abbrev main_v25 : Ref sig .tc := ⟨.hbm, 118, rfl⟩
abbrev main_cst : Ref sig .tc := ⟨.hbm, 119, rfl⟩
abbrev main_v26 : Ref sig .tc := ⟨.hbm, 120, rfl⟩
abbrev main_c_8 : Ref sig .tc := ⟨.hbm, 121, rfl⟩
abbrev main_v27 : Ref sig .tc := ⟨.hbm, 122, rfl⟩
abbrev main_v28 : Ref sig .tc := ⟨.hbm, 123, rfl⟩
abbrev main_c_9 : Ref sig .tc := ⟨.hbm, 124, rfl⟩
abbrev main_v29 : Ref sig .tc := ⟨.hbm, 125, rfl⟩
abbrev main_v30 : Ref sig .tc := ⟨.hbm, 126, rfl⟩
abbrev main_v31 : Ref sig .tc := ⟨.hbm, 127, rfl⟩
abbrev main_c_10 : Ref sig .tc := ⟨.hbm, 128, rfl⟩
abbrev main_v32 : Ref sig .tc := ⟨.hbm, 129, rfl⟩
abbrev main_v33 : Ref sig .tc := ⟨.hbm, 130, rfl⟩
abbrev main_c_11 : Ref sig .tc := ⟨.hbm, 131, rfl⟩
abbrev main_v34 : Ref sig .tc := ⟨.hbm, 132, rfl⟩
abbrev main_v35 : Ref sig .tc := ⟨.hbm, 133, rfl⟩
abbrev main_v36 : Ref sig .tc := ⟨.hbm, 134, rfl⟩
abbrev main_c_12 : Ref sig .tc := ⟨.hbm, 135, rfl⟩
abbrev main_v37 : Ref sig .tc := ⟨.hbm, 136, rfl⟩
abbrev main_v38 : Ref sig .tc := ⟨.hbm, 137, rfl⟩
abbrev main_c_13 : Ref sig .tc := ⟨.hbm, 138, rfl⟩
abbrev main_v39 : Ref sig .tc := ⟨.hbm, 139, rfl⟩
abbrev main_v40 : Ref sig .tc := ⟨.hbm, 140, rfl⟩
abbrev main_v41 : Ref sig .tc := ⟨.hbm, 141, rfl⟩
abbrev main_v42 : Ref sig .tc := ⟨.hbm, 142, rfl⟩
abbrev main_v43 : Ref sig .tc := ⟨.hbm, 143, rfl⟩
abbrev main_v44 : Ref sig .tc := ⟨.hbm, 144, rfl⟩
abbrev main_v45 : Ref sig .tc := ⟨.hbm, 145, rfl⟩
abbrev main_cst_14 : Ref sig .tc := ⟨.hbm, 146, rfl⟩
abbrev main_v46 : Ref sig .tc := ⟨.hbm, 147, rfl⟩
abbrev main_v47 : Ref sig .tc := ⟨.hbm, 148, rfl⟩
abbrev main_v48 : Ref sig .tc := ⟨.hbm, 149, rfl⟩
abbrev main_v49 : Ref sig .tc := ⟨.hbm, 150, rfl⟩
abbrev main_c_15 : Ref sig .tc := ⟨.hbm, 151, rfl⟩
abbrev main_v50 : Ref sig .tc := ⟨.hbm, 152, rfl⟩
abbrev main_v51 : Ref sig .tc := ⟨.hbm, 153, rfl⟩
abbrev main_c_16 : Ref sig .tc := ⟨.hbm, 154, rfl⟩
abbrev main_v52 : Ref sig .tc := ⟨.hbm, 155, rfl⟩
abbrev main_v53 : Ref sig .tc := ⟨.hbm, 156, rfl⟩
abbrev main_v54 : Ref sig .tc := ⟨.hbm, 157, rfl⟩
abbrev main_c_17 : Ref sig .tc := ⟨.hbm, 158, rfl⟩
abbrev main_v55 : Ref sig .tc := ⟨.hbm, 159, rfl⟩
abbrev main_v56 : Ref sig .tc := ⟨.hbm, 160, rfl⟩
abbrev main_c_18 : Ref sig .tc := ⟨.hbm, 161, rfl⟩
abbrev main_v57 : Ref sig .tc := ⟨.hbm, 162, rfl⟩
abbrev main_v58 : Ref sig .tc := ⟨.hbm, 163, rfl⟩
abbrev main_v59 : Ref sig .tc := ⟨.hbm, 164, rfl⟩
abbrev main_c_19 : Ref sig .tc := ⟨.hbm, 165, rfl⟩
abbrev main_v60 : Ref sig .tc := ⟨.hbm, 166, rfl⟩
abbrev main_v61 : Ref sig .tc := ⟨.hbm, 167, rfl⟩
abbrev main_c_20 : Ref sig .tc := ⟨.hbm, 168, rfl⟩
abbrev main_v62 : Ref sig .tc := ⟨.hbm, 169, rfl⟩
abbrev main_v63 : Ref sig .tc := ⟨.hbm, 170, rfl⟩
abbrev main_v64 : Ref sig .tc := ⟨.hbm, 171, rfl⟩
abbrev main_v65 : Ref sig .tc := ⟨.hbm, 172, rfl⟩
abbrev main_v66 : Ref sig .tc := ⟨.hbm, 173, rfl⟩
abbrev main_v67 : Ref sig .tc := ⟨.hbm, 174, rfl⟩
abbrev main_v68 : Ref sig .tc := ⟨.hbm, 175, rfl⟩
abbrev main_v69 : Ref sig .tc := ⟨.hbm, 176, rfl⟩
abbrev main_v70 : Ref sig .tc := ⟨.hbm, 177, rfl⟩
abbrev main_v71 : Ref sig .tc := ⟨.hbm, 178, rfl⟩
abbrev main_c_21 : Ref sig .tc := ⟨.hbm, 179, rfl⟩
abbrev main_v72 : Ref sig .tc := ⟨.hbm, 180, rfl⟩
abbrev main_v73 : Ref sig .tc := ⟨.hbm, 181, rfl⟩
abbrev main_c_22 : Ref sig .tc := ⟨.hbm, 182, rfl⟩
abbrev main_v74 : Ref sig .tc := ⟨.hbm, 183, rfl⟩
abbrev main_v75 : Ref sig .tc := ⟨.hbm, 184, rfl⟩
abbrev main_v76 : Ref sig .tc := ⟨.hbm, 185, rfl⟩
abbrev main_c_23 : Ref sig .tc := ⟨.hbm, 186, rfl⟩
abbrev main_v77 : Ref sig .tc := ⟨.hbm, 187, rfl⟩
abbrev main_v78 : Ref sig .tc := ⟨.hbm, 188, rfl⟩
abbrev main_c_24 : Ref sig .tc := ⟨.hbm, 189, rfl⟩
abbrev main_v79 : Ref sig .tc := ⟨.hbm, 190, rfl⟩
abbrev main_v80 : Ref sig .tc := ⟨.hbm, 191, rfl⟩
abbrev main_v81 : Ref sig .tc := ⟨.hbm, 192, rfl⟩
abbrev main_c_25 : Ref sig .tc := ⟨.hbm, 193, rfl⟩
abbrev main_v82 : Ref sig .tc := ⟨.hbm, 194, rfl⟩
abbrev main_v83 : Ref sig .tc := ⟨.hbm, 195, rfl⟩
abbrev main_c_26 : Ref sig .tc := ⟨.hbm, 196, rfl⟩
abbrev main_v84 : Ref sig .tc := ⟨.hbm, 197, rfl⟩
abbrev main_v85 : Ref sig .tc := ⟨.hbm, 198, rfl⟩
abbrev main_v86 : Ref sig .tc := ⟨.hbm, 199, rfl⟩
abbrev main_v87 : Ref sig .tc := ⟨.hbm, 200, rfl⟩
abbrev main_v88 : Ref sig .tc := ⟨.hbm, 201, rfl⟩
abbrev main_v89 : Ref sig .tc := ⟨.hbm, 202, rfl⟩
abbrev main_v90 : Ref sig .tc := ⟨.hbm, 203, rfl⟩
abbrev main_v91 : Ref sig .tc := ⟨.hbm, 204, rfl⟩
abbrev main_v92 : Ref sig .tc := ⟨.hbm, 205, rfl⟩
abbrev main_v93 : Ref sig .tc := ⟨.hbm, 206, rfl⟩
abbrev main_c_27 : Ref sig .tc := ⟨.hbm, 207, rfl⟩
abbrev main_v94 : Ref sig .tc := ⟨.hbm, 208, rfl⟩
abbrev main_v95 : Ref sig .tc := ⟨.hbm, 209, rfl⟩
abbrev main_c_28 : Ref sig .tc := ⟨.hbm, 210, rfl⟩
abbrev main_v96 : Ref sig .tc := ⟨.hbm, 211, rfl⟩
abbrev main_v97 : Ref sig .tc := ⟨.hbm, 212, rfl⟩
abbrev main_v98 : Ref sig .tc := ⟨.hbm, 213, rfl⟩
abbrev main_c_29 : Ref sig .tc := ⟨.hbm, 214, rfl⟩
abbrev main_v99 : Ref sig .tc := ⟨.hbm, 215, rfl⟩
abbrev main_v100 : Ref sig .tc := ⟨.hbm, 216, rfl⟩
abbrev main_c_30 : Ref sig .tc := ⟨.hbm, 217, rfl⟩
abbrev main_v101 : Ref sig .tc := ⟨.hbm, 218, rfl⟩
abbrev main_v102 : Ref sig .tc := ⟨.hbm, 219, rfl⟩
abbrev main_v103 : Ref sig .tc := ⟨.hbm, 220, rfl⟩
abbrev main_c_31 : Ref sig .tc := ⟨.hbm, 221, rfl⟩
abbrev main_v104 : Ref sig .tc := ⟨.hbm, 222, rfl⟩
abbrev main_v105 : Ref sig .tc := ⟨.hbm, 223, rfl⟩
abbrev main_c_32 : Ref sig .tc := ⟨.hbm, 224, rfl⟩
abbrev main_v106 : Ref sig .tc := ⟨.hbm, 225, rfl⟩
abbrev main_v107 : Ref sig .tc := ⟨.hbm, 226, rfl⟩
abbrev main_v108 : Ref sig .tc := ⟨.hbm, 227, rfl⟩
abbrev main_v109 : Ref sig .tc := ⟨.hbm, 228, rfl⟩
abbrev main_v110 : Ref sig .tc := ⟨.hbm, 229, rfl⟩
abbrev main_v111 : Ref sig .tc := ⟨.hbm, 230, rfl⟩
abbrev main_v112 : Ref sig .tc := ⟨.hbm, 231, rfl⟩
abbrev main_v113 : Ref sig .tc := ⟨.hbm, 232, rfl⟩
abbrev main_c_33 : Ref sig .tc := ⟨.hbm, 233, rfl⟩
abbrev main_v114 : Ref sig .tc := ⟨.hbm, 234, rfl⟩
abbrev main_v115 : Ref sig .tc := ⟨.hbm, 235, rfl⟩
abbrev main_c_34 : Ref sig .tc := ⟨.hbm, 236, rfl⟩
abbrev main_v116 : Ref sig .tc := ⟨.hbm, 237, rfl⟩
abbrev main_v117 : Ref sig .tc := ⟨.hbm, 238, rfl⟩
abbrev main_v118 : Ref sig .tc := ⟨.hbm, 239, rfl⟩
abbrev main_c_35 : Ref sig .tc := ⟨.hbm, 240, rfl⟩
abbrev main_v119 : Ref sig .tc := ⟨.hbm, 241, rfl⟩
abbrev main_v120 : Ref sig .tc := ⟨.hbm, 242, rfl⟩
abbrev main_c_36 : Ref sig .tc := ⟨.hbm, 243, rfl⟩
abbrev main_v121 : Ref sig .tc := ⟨.hbm, 244, rfl⟩
abbrev main_v122 : Ref sig .tc := ⟨.hbm, 245, rfl⟩
abbrev main_v123 : Ref sig .tc := ⟨.hbm, 246, rfl⟩
abbrev main_c_37 : Ref sig .tc := ⟨.hbm, 247, rfl⟩
abbrev main_v124 : Ref sig .tc := ⟨.hbm, 248, rfl⟩
abbrev main_v125 : Ref sig .tc := ⟨.hbm, 249, rfl⟩
abbrev main_c_38 : Ref sig .tc := ⟨.hbm, 250, rfl⟩
abbrev main_v126 : Ref sig .tc := ⟨.hbm, 251, rfl⟩
abbrev main_v127 : Ref sig .tc := ⟨.hbm, 252, rfl⟩
abbrev main_v128 : Ref sig .tc := ⟨.hbm, 253, rfl⟩
abbrev main_v129 : Ref sig .tc := ⟨.hbm, 254, rfl⟩
abbrev main_v130 : Ref sig .tc := ⟨.hbm, 255, rfl⟩
abbrev main_v131 : Ref sig .tc := ⟨.hbm, 256, rfl⟩
abbrev main_v132 : Ref sig .tc := ⟨.hbm, 257, rfl⟩
abbrev main_v133 : Ref sig .tc := ⟨.hbm, 258, rfl⟩
abbrev main_v134 : Ref sig .tc := ⟨.hbm, 259, rfl⟩
abbrev main_v135 : Ref sig .tc := ⟨.hbm, 260, rfl⟩
abbrev main_v136 : Ref sig .tc := ⟨.hbm, 261, rfl⟩
abbrev main_v137 : Ref sig .tc := ⟨.hbm, 262, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_stg10_0 : Ref sig .tc := ⟨.smem, 0, rfl⟩
abbrev cc0_stg11_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![2, 50], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x50x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x56x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x56x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x56x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x56x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x56x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S256x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .smem S4x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .smem S1x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x4x50x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "inv_block" => some ((1 / 50 : ℝ) : EReal)
  | "mask" => some ⊥
  | _ => none
-- ==== ReferenceIdeal.lean ====
abbrev S2x10000x256 : Shape := ⟨3, ![2, 10000, 256]⟩
abbrev S2x160000 : Shape := ⟨2, ![2, 160000]⟩
abbrev S160000 : Shape := ⟨1, ![160000]⟩
abbrev S10000x3 : Shape := ⟨2, ![10000, 3]⟩
abbrev S256x768 : Shape := ⟨2, ![256, 768]⟩
abbrev S768 : Shape := ⟨1, ![768]⟩
abbrev S256x256 : Shape := ⟨2, ![256, 256]⟩
abbrev S256 : Shape := ⟨1, ![256]⟩
abbrev S4x8 : Shape := ⟨2, ![4, 8]⟩
abbrev S8 : Shape := ⟨1, ![8]⟩
abbrev S1x160000 : Shape := ⟨2, ![1, 160000]⟩
abbrev S_ : Shape := ⟨0, ![]⟩
abbrev S200x50x50 : Shape := ⟨3, ![200, 50, 50]⟩
abbrev S160000x1 : Shape := ⟨2, ![160000, 1]⟩
abbrev S160000x3 : Shape := ⟨2, ![160000, 3]⟩
abbrev S50x50 : Shape := ⟨2, ![50, 50]⟩
abbrev S200x50x51 : Shape := ⟨3, ![200, 50, 51]⟩
abbrev S1 : Shape := ⟨1, ![1]⟩
abbrev S200x50 : Shape := ⟨2, ![200, 50]⟩
abbrev S160000x4 : Shape := ⟨2, ![160000, 4]⟩
abbrev S200x50x51x4 : Shape := ⟨4, ![200, 50, 51, 4]⟩
abbrev S200x50x4 : Shape := ⟨3, ![200, 50, 4]⟩
abbrev S2 : Shape := ⟨1, ![2]⟩
abbrev S50 : Shape := ⟨1, ![50]⟩
abbrev S50x1 : Shape := ⟨2, ![50, 1]⟩
abbrev S50x2 : Shape := ⟨2, ![50, 2]⟩
abbrev S50x3 : Shape := ⟨2, ![50, 3]⟩
abbrev S2x200x50x256 : Shape := ⟨4, ![2, 200, 50, 256]⟩
abbrev S2x200x256 : Shape := ⟨3, ![2, 200, 256]⟩
abbrev S2x200x1x256 : Shape := ⟨4, ![2, 200, 1, 256]⟩
abbrev S2x200x51x256 : Shape := ⟨4, ![2, 200, 51, 256]⟩
abbrev S2x200x50x768 : Shape := ⟨4, ![2, 200, 50, 768]⟩
abbrev S1x1x1x768 : Shape := ⟨4, ![1, 1, 1, 768]⟩
abbrev S2x200x51x768 : Shape := ⟨4, ![2, 200, 51, 768]⟩
abbrev S2x200x50x8x32 : Shape := ⟨5, ![2, 200, 50, 8, 32]⟩
abbrev S2x200x51x8x32 : Shape := ⟨5, ![2, 200, 51, 8, 32]⟩
abbrev S2x200x8x51x50 : Shape := ⟨5, ![2, 200, 8, 51, 50]⟩
abbrev S2x200x50x51x8 : Shape := ⟨5, ![2, 200, 50, 51, 8]⟩
abbrev S200x50x51x1 : Shape := ⟨4, ![200, 50, 51, 1]⟩
abbrev S1x200x50x51x1 : Shape := ⟨5, ![1, 200, 50, 51, 1]⟩
abbrev S2x200x50x8 : Shape := ⟨4, ![2, 200, 50, 8]⟩
abbrev S2x200x50x1x8 : Shape := ⟨5, ![2, 200, 50, 1, 8]⟩
abbrev S200x50x51x8 : Shape := ⟨4, ![200, 50, 51, 8]⟩
abbrev S1x1x1x8 : Shape := ⟨4, ![1, 1, 1, 8]⟩
abbrev S1x200x50x51x8 : Shape := ⟨5, ![1, 200, 50, 51, 8]⟩
abbrev S2x200x8x32x50 : Shape := ⟨5, ![2, 200, 8, 32, 50]⟩
abbrev S1x1x1x256 : Shape := ⟨4, ![1, 1, 1, 256]⟩

abbrev nBuf : Space → Nat
  | .hbm => 344
  | .vmem => 0
  | .smem => 0
  | _ => 0

abbrev hbmTy0_0 (i : Nat) : BufTy := match i % 128 with
  | 0 => ⟨S2x10000x256, .f32⟩
  | 1 => ⟨S2x160000, .i32⟩
  | 2 => ⟨S160000, .f32⟩
  | 3 => ⟨S10000x3, .f32⟩
  | 4 => ⟨S256x768, .f32⟩
  | 5 => ⟨S768, .f32⟩
  | 6 => ⟨S256x256, .f32⟩
  | 7 => ⟨S256, .f32⟩
  | 8 => ⟨S4x8, .f32⟩
  | 9 => ⟨S8, .f32⟩
  | 10 => ⟨S1x160000, .i32⟩
  | 11 => ⟨S160000, .i32⟩
  | 12 => ⟨S1x160000, .i32⟩
  | 13 => ⟨S160000, .i32⟩
  | 14 => ⟨S_, .i32⟩
  | 15 => ⟨S_, .i32⟩
  | 16 => ⟨S160000, .i32⟩
  | 17 => ⟨S160000, .i32⟩
  | 18 => ⟨S160000, .i32⟩
  | 19 => ⟨S_, .i32⟩
  | 20 => ⟨S160000, .i32⟩
  | 21 => ⟨S160000, .i1⟩
  | 22 => ⟨S160000, .i32⟩
  | 23 => ⟨S160000, .i32⟩
  | 24 => ⟨S_, .i32⟩
  | 25 => ⟨S160000, .i32⟩
  | 26 => ⟨S160000, .i1⟩
  | 27 => ⟨S160000, .i1⟩
  | 28 => ⟨S_, .i32⟩
  | 29 => ⟨S160000, .i32⟩
  | 30 => ⟨S160000, .i32⟩
  | 31 => ⟨S160000, .i32⟩
  | 32 => ⟨S_, .i32⟩
  | 33 => ⟨S_, .i32⟩
  | 34 => ⟨S160000, .i32⟩
  | 35 => ⟨S160000, .i32⟩
  | 36 => ⟨S160000, .i32⟩
  | 37 => ⟨S_, .i32⟩
  | 38 => ⟨S160000, .i32⟩
  | 39 => ⟨S160000, .i1⟩
  | 40 => ⟨S160000, .i32⟩
  | 41 => ⟨S160000, .i32⟩
  | 42 => ⟨S_, .i32⟩
  | 43 => ⟨S160000, .i32⟩
  | 44 => ⟨S160000, .i1⟩
  | 45 => ⟨S160000, .i1⟩
  | 46 => ⟨S_, .i32⟩
  | 47 => ⟨S160000, .i32⟩
  | 48 => ⟨S160000, .i32⟩
  | 49 => ⟨S160000, .i32⟩
  | 50 => ⟨S160000, .i1⟩
  | 51 => ⟨S_, .i32⟩
  | 52 => ⟨S160000, .i32⟩
  | 53 => ⟨S160000, .i1⟩
  | 54 => ⟨S160000, .i1⟩
  | 55 => ⟨S_, .i32⟩
  | 56 => ⟨S_, .i32⟩
  | 57 => ⟨S160000, .i32⟩
  | 58 => ⟨S160000, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S160000, .i32⟩
  | 66 => ⟨S160000, .i32⟩
  | 67 => ⟨S_, .i32⟩
  | 68 => ⟨S160000, .i32⟩
  | 69 => ⟨S160000, .i1⟩
  | 70 => ⟨S_, .i32⟩
  | 71 => ⟨S160000, .i32⟩
  | 72 => ⟨S160000, .i1⟩
  | 73 => ⟨S_, .i32⟩
  | 74 => ⟨S_, .i1⟩
  | 75 => ⟨S160000, .i1⟩
  | 76 => ⟨S160000, .i1⟩
  | 77 => ⟨S160000, .i1⟩
  | 78 => ⟨S160000, .i32⟩
  | 79 => ⟨S160000, .i32⟩
  | 80 => ⟨S160000, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S160000, .i32⟩
  | 88 => ⟨S160000, .i32⟩
  | 89 => ⟨S_, .i32⟩
  | 90 => ⟨S160000, .i32⟩
  | 91 => ⟨S160000, .i1⟩
  | 92 => ⟨S_, .i32⟩
  | 93 => ⟨S160000, .i32⟩
  | 94 => ⟨S160000, .i1⟩
  | 95 => ⟨S_, .i32⟩
  | 96 => ⟨S_, .i1⟩
  | 97 => ⟨S160000, .i1⟩
  | 98 => ⟨S160000, .i1⟩
  | 99 => ⟨S160000, .i1⟩
  | 100 => ⟨S160000, .i32⟩
  | 101 => ⟨S160000, .i32⟩
  | 102 => ⟨S160000, .i32⟩
  | 103 => ⟨S_, .f32⟩
  | 104 => ⟨S200x50x50, .f32⟩
  | 105 => ⟨S_, .i32⟩
  | 106 => ⟨S160000, .i32⟩
  | 107 => ⟨S160000, .i1⟩
  | 108 => ⟨S_, .i32⟩
  | 109 => ⟨S160000, .i32⟩
  | 110 => ⟨S160000, .i32⟩
  | 111 => ⟨S160000, .i32⟩
  | 112 => ⟨S_, .i32⟩
  | 113 => ⟨S160000, .i32⟩
  | 114 => ⟨S160000, .i1⟩
  | 115 => ⟨S_, .i32⟩
  | 116 => ⟨S160000, .i32⟩
  | 117 => ⟨S160000, .i32⟩
  | 118 => ⟨S160000, .i32⟩
  | 119 => ⟨S_, .i32⟩
  | 120 => ⟨S160000, .i32⟩
  | 121 => ⟨S160000, .i1⟩
  | 122 => ⟨S_, .i32⟩
  | 123 => ⟨S160000, .i32⟩
  | 124 => ⟨S160000, .i32⟩
  | 125 => ⟨S160000, .i32⟩
  | 126 => ⟨S160000x1, .i32⟩
  | 127 => ⟨S160000x1, .i32⟩
  | _ => ⟨S2x10000x256, .f32⟩

abbrev hbmTy0_1 (i : Nat) : BufTy := match i % 128 with
  | 0 => ⟨S160000x1, .i32⟩
  | 1 => ⟨S160000x3, .i32⟩
  | 2 => ⟨S_, .f32⟩
  | 3 => ⟨S160000, .f32⟩
  | 4 => ⟨S200x50x50, .f32⟩
  | 5 => ⟨S50x50, .i32⟩
  | 6 => ⟨S50x50, .i32⟩
  | 7 => ⟨S_, .i32⟩
  | 8 => ⟨S50x50, .i32⟩
  | 9 => ⟨S50x50, .i32⟩
  | 10 => ⟨S50x50, .i1⟩
  | 11 => ⟨S50x50, .f32⟩
  | 12 => ⟨S200x50x50, .f32⟩
  | 13 => ⟨S200x50x50, .f32⟩
  | 14 => ⟨S_, .f32⟩
  | 15 => ⟨S_, .f32⟩
  | 16 => ⟨S_, .f32⟩
  | 17 => ⟨S200x50x50, .f32⟩
  | 18 => ⟨S200x50x50, .f32⟩
  | 19 => ⟨S_, .f32⟩
  | 20 => ⟨S200x50x50, .f32⟩
  | 21 => ⟨S200x50x50, .f32⟩
  | 22 => ⟨S200x50x50, .f32⟩
  | 23 => ⟨S_, .f32⟩
  | 24 => ⟨S200x50x51, .f32⟩
  | 25 => ⟨S_, .i32⟩
  | 26 => ⟨S1, .i32⟩
  | 27 => ⟨S200x50x51, .f32⟩
  | 28 => ⟨S_, .i32⟩
  | 29 => ⟨S1, .i32⟩
  | 30 => ⟨S_, .f32⟩
  | 31 => ⟨S200x50, .f32⟩
  | 32 => ⟨S200x50x51, .f32⟩
  | 33 => ⟨S_, .i32⟩
  | 34 => ⟨S160000, .i32⟩
  | 35 => ⟨S160000, .i1⟩
  | 36 => ⟨S_, .i32⟩
  | 37 => ⟨S160000, .i32⟩
  | 38 => ⟨S160000, .i32⟩
  | 39 => ⟨S160000, .i32⟩
  | 40 => ⟨S160000x1, .i32⟩
  | 41 => ⟨S160000x3, .f32⟩
  | 42 => ⟨S_, .i32⟩
  | 43 => ⟨S160000, .i32⟩
  | 44 => ⟨S160000, .i1⟩
  | 45 => ⟨S_, .i32⟩
  | 46 => ⟨S160000, .i32⟩
  | 47 => ⟨S160000, .i32⟩
  | 48 => ⟨S160000, .i32⟩
  | 49 => ⟨S160000x1, .i32⟩
  | 50 => ⟨S160000x3, .f32⟩
  | 51 => ⟨S160000x3, .f32⟩
  | 52 => ⟨S160000x1, .f32⟩
  | 53 => ⟨S160000x4, .f32⟩
  | 54 => ⟨S_, .f32⟩
  | 55 => ⟨S200x50x51x4, .f32⟩
  | 56 => ⟨S_, .i32⟩
  | 57 => ⟨S160000, .i32⟩
  | 58 => ⟨S160000, .i1⟩
  | 59 => ⟨S_, .i32⟩
  | 60 => ⟨S160000, .i32⟩
  | 61 => ⟨S160000, .i32⟩
  | 62 => ⟨S160000, .i32⟩
  | 63 => ⟨S_, .i32⟩
  | 64 => ⟨S160000, .i32⟩
  | 65 => ⟨S160000, .i1⟩
  | 66 => ⟨S_, .i32⟩
  | 67 => ⟨S160000, .i32⟩
  | 68 => ⟨S160000, .i32⟩
  | 69 => ⟨S160000, .i32⟩
  | 70 => ⟨S_, .i32⟩
  | 71 => ⟨S160000, .i32⟩
  | 72 => ⟨S160000, .i1⟩
  | 73 => ⟨S_, .i32⟩
  | 74 => ⟨S160000, .i32⟩
  | 75 => ⟨S160000, .i32⟩
  | 76 => ⟨S160000, .i32⟩
  | 77 => ⟨S160000x1, .i32⟩
  | 78 => ⟨S160000x1, .i32⟩
  | 79 => ⟨S160000x1, .i32⟩
  | 80 => ⟨S160000x3, .i32⟩
  | 81 => ⟨S200x50x51x4, .f32⟩
  | 82 => ⟨S_, .i32⟩
  | 83 => ⟨S1, .i32⟩
  | 84 => ⟨S_, .f32⟩
  | 85 => ⟨S200x50x4, .f32⟩
  | 86 => ⟨S200x50x51x4, .f32⟩
  | 87 => ⟨S_, .i32⟩
  | 88 => ⟨S1, .i32⟩
  | 89 => ⟨S_, .i32⟩
  | 90 => ⟨S1, .i32⟩
  | 91 => ⟨S2, .i32⟩
  | 92 => ⟨S_, .f32⟩
  | 93 => ⟨S200x50, .f32⟩
  | 94 => ⟨S200x50x51x4, .f32⟩
  | 95 => ⟨S50, .i32⟩
  | 96 => ⟨S_, .i32⟩
  | 97 => ⟨S50, .i32⟩
  | 98 => ⟨S50, .i1⟩
  | 99 => ⟨S_, .i32⟩
  | 100 => ⟨S50, .i32⟩
  | 101 => ⟨S50, .i32⟩
  | 102 => ⟨S50, .i32⟩
  | 103 => ⟨S_, .i32⟩
  | 104 => ⟨S50, .i32⟩
  | 105 => ⟨S50, .i1⟩
  | 106 => ⟨S_, .i32⟩
  | 107 => ⟨S50, .i32⟩
  | 108 => ⟨S50, .i32⟩
  | 109 => ⟨S50, .i32⟩
  | 110 => ⟨S50x1, .i32⟩
  | 111 => ⟨S50x1, .i32⟩
  | 112 => ⟨S50x2, .i32⟩
  | 113 => ⟨S_, .f32⟩
  | 114 => ⟨S200x50x4, .f32⟩
  | 115 => ⟨S200x50x51x4, .f32⟩
  | 116 => ⟨S_, .i32⟩
  | 117 => ⟨S50, .i32⟩
  | 118 => ⟨S50, .i1⟩
  | 119 => ⟨S_, .i32⟩
  | 120 => ⟨S50, .i32⟩
  | 121 => ⟨S50, .i32⟩
  | 122 => ⟨S50, .i32⟩
  | 123 => ⟨S_, .i32⟩
  | 124 => ⟨S50, .i32⟩
  | 125 => ⟨S50, .i1⟩
  | 126 => ⟨S_, .i32⟩
  | 127 => ⟨S50, .i32⟩
  | _ => ⟨S2x10000x256, .f32⟩

abbrev hbmTy0_2 (i : Nat) : BufTy := match i % 128 with
  | 0 => ⟨S50, .i32⟩
  | 1 => ⟨S50, .i32⟩
  | 2 => ⟨S_, .i32⟩
  | 3 => ⟨S50, .i32⟩
  | 4 => ⟨S50, .i32⟩
  | 5 => ⟨S50x1, .i32⟩
  | 6 => ⟨S50x1, .i32⟩
  | 7 => ⟨S50x1, .i32⟩
  | 8 => ⟨S50x3, .i32⟩
  | 9 => ⟨S_, .f32⟩
  | 10 => ⟨S200x50, .f32⟩
  | 11 => ⟨S200x50x51x4, .f32⟩
  | 12 => ⟨S2x200x50x256, .f32⟩
  | 13 => ⟨S_, .f32⟩
  | 14 => ⟨S2x200x256, .f32⟩
  | 15 => ⟨S2x200x1x256, .f32⟩
  | 16 => ⟨S_, .f32⟩
  | 17 => ⟨S2x200x1x256, .f32⟩
  | 18 => ⟨S2x200x1x256, .f32⟩
  | 19 => ⟨S2x200x51x256, .f32⟩
  | 20 => ⟨S2x200x50x768, .f32⟩
  | 21 => ⟨S1x1x1x768, .f32⟩
  | 22 => ⟨S2x200x50x768, .f32⟩
  | 23 => ⟨S2x200x50x768, .f32⟩
  | 24 => ⟨S2x200x51x768, .f32⟩
  | 25 => ⟨S1x1x1x768, .f32⟩
  | 26 => ⟨S2x200x51x768, .f32⟩
  | 27 => ⟨S2x200x51x768, .f32⟩
  | 28 => ⟨S2x200x50x256, .f32⟩
  | 29 => ⟨S2x200x50x8x32, .f32⟩
  | 30 => ⟨S2x200x51x256, .f32⟩
  | 31 => ⟨S2x200x51x8x32, .f32⟩
  | 32 => ⟨S2x200x51x256, .f32⟩
  | 33 => ⟨S2x200x51x8x32, .f32⟩
  | 34 => ⟨S2x200x8x51x50, .f32⟩
  | 35 => ⟨S2x200x50x51x8, .f32⟩
  | 36 => ⟨S_, .f32⟩
  | 37 => ⟨S2x200x50x51x8, .f32⟩
  | 38 => ⟨S2x200x50x51x8, .f32⟩
  | 39 => ⟨S200x50x51x1, .f32⟩
  | 40 => ⟨S1x200x50x51x1, .f32⟩
  | 41 => ⟨S2x200x50x51x8, .f32⟩
  | 42 => ⟨S2x200x50x51x8, .f32⟩
  | 43 => ⟨S1x200x50x51x1, .f32⟩
  | 44 => ⟨S_, .f32⟩
  | 45 => ⟨S1x200x50x51x1, .f32⟩
  | 46 => ⟨S1x200x50x51x1, .i1⟩
  | 47 => ⟨S_, .f32⟩
  | 48 => ⟨S_, .f32⟩
  | 49 => ⟨S2x200x50x51x8, .i1⟩
  | 50 => ⟨S2x200x50x51x8, .f32⟩
  | 51 => ⟨S2x200x50x51x8, .f32⟩
  | 52 => ⟨S_, .f32⟩
  | 53 => ⟨S2x200x50x8, .f32⟩
  | 54 => ⟨S_, .f32⟩
  | 55 => ⟨S2x200x50x8, .f32⟩
  | 56 => ⟨S2x200x50x8, .f32⟩
  | 57 => ⟨S2x200x50x1x8, .f32⟩
  | 58 => ⟨S2x200x50x51x8, .f32⟩
  | 59 => ⟨S2x200x50x51x8, .f32⟩
  | 60 => ⟨S2x200x50x51x8, .f32⟩
  | 61 => ⟨S_, .f32⟩
  | 62 => ⟨S2x200x50x8, .f32⟩
  | 63 => ⟨S2x200x50x1x8, .f32⟩
  | 64 => ⟨S2x200x50x51x8, .f32⟩
  | 65 => ⟨S2x200x50x51x8, .f32⟩
  | 66 => ⟨S200x50x51x8, .f32⟩
  | 67 => ⟨S1x1x1x8, .f32⟩
  | 68 => ⟨S200x50x51x8, .f32⟩
  | 69 => ⟨S200x50x51x8, .f32⟩
  | 70 => ⟨S_, .f32⟩
  | 71 => ⟨S1x200x50x51x1, .f32⟩
  | 72 => ⟨S1x200x50x51x1, .i1⟩
  | 73 => ⟨S1x200x50x51x8, .f32⟩
  | 74 => ⟨S_, .f32⟩
  | 75 => ⟨S_, .f32⟩
  | 76 => ⟨S1x200x50x51x8, .i1⟩
  | 77 => ⟨S1x200x50x51x8, .f32⟩
  | 78 => ⟨S1x200x50x51x8, .f32⟩
  | 79 => ⟨S2x200x50x51x8, .f32⟩
  | 80 => ⟨S2x200x50x51x8, .f32⟩
  | 81 => ⟨S2x200x8x32x50, .f32⟩
  | 82 => ⟨S2x200x50x8x32, .f32⟩
  | 83 => ⟨S2x200x50x256, .f32⟩
  | 84 => ⟨S2x200x50x256, .f32⟩
  | 85 => ⟨S1x1x1x256, .f32⟩
  | 86 => ⟨S2x200x50x256, .f32⟩
  | 87 => ⟨S2x200x50x256, .f32⟩
  | _ => ⟨S2x10000x256, .f32⟩

abbrev hbmTy (i : Nat) : BufTy := match i / 128 with
  | 0 => hbmTy0_0 i
  | 1 => hbmTy0_1 i
  | 2 => hbmTy0_2 i
  | _ => ⟨S2x10000x256, .f32⟩

abbrev bufTy : (tb : Table) → Fin (tcTables nBuf tb) → BufTy
  | .hbm, ⟨i, _⟩ => hbmTy i
  | _, _ => ⟨S2x10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v4 : Ref sig .tc := ⟨.hbm, 31, rfl⟩
abbrev main_c_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v5 : Ref sig .tc := ⟨.hbm, 49, rfl⟩
abbrev main_v6 : Ref sig .tc := ⟨.hbm, 50, rfl⟩
abbrev main_c_1 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_c_2 : Ref sig .tc := ⟨.hbm, 55, rfl⟩
abbrev main_call2_v0 : Ref sig .tc := ⟨.hbm, 56, rfl⟩
abbrev main_call2_v1 : Ref sig .tc := ⟨.hbm, 57, rfl⟩
abbrev main_v10 : Ref sig .tc := ⟨.hbm, 58, rfl⟩
abbrev main_c_3 : Ref sig .tc := ⟨.hbm, 59, rfl⟩
abbrev main_call3_v0 : Ref sig .tc := ⟨.hbm, 60, rfl⟩
abbrev main_call3_c : Ref sig .tc := ⟨.hbm, 61, rfl⟩
abbrev main_call3_v1 : Ref sig .tc := ⟨.hbm, 62, rfl⟩
abbrev main_call3_c_0 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_c_1 : Ref sig .tc := ⟨.hbm, 67, rfl⟩
abbrev main_call3_v5 : Ref sig .tc := ⟨.hbm, 68, rfl⟩
abbrev main_call3_v6 : Ref sig .tc := ⟨.hbm, 69, rfl⟩
abbrev main_call3_c_2 : Ref sig .tc := ⟨.hbm, 70, rfl⟩
abbrev main_call3_v7 : Ref sig .tc := ⟨.hbm, 71, rfl⟩
abbrev main_call3_v8 : Ref sig .tc := ⟨.hbm, 72, rfl⟩
abbrev main_call3_c_3 : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_v12 : Ref sig .tc := ⟨.hbm, 77, rfl⟩
abbrev main_call3_v13 : Ref sig .tc := ⟨.hbm, 78, rfl⟩
abbrev main_call3_v14 : Ref sig .tc := ⟨.hbm, 79, rfl⟩
abbrev main_v11 : Ref sig .tc := ⟨.hbm, 80, rfl⟩
abbrev main_c_4 : Ref sig .tc := ⟨.hbm, 81, rfl⟩
abbrev main_call4_v0 : Ref sig .tc := ⟨.hbm, 82, rfl⟩
abbrev main_call4_c : Ref sig .tc := ⟨.hbm, 83, rfl⟩
abbrev main_call4_v1 : Ref sig .tc := ⟨.hbm, 84, rfl⟩
abbrev main_call4_c_0 : Ref sig .tc := ⟨.hbm, 85, rfl⟩
abbrev main_call4_v2 : Ref sig .tc := ⟨.hbm, 86, rfl⟩
abbrev main_call4_v3 : Ref sig .tc := ⟨.hbm, 87, rfl⟩
abbrev main_call4_v4 : Ref sig .tc := ⟨.hbm, 88, rfl⟩
abbrev main_call4_c_1 : Ref sig .tc := ⟨.hbm, 89, rfl⟩
abbrev main_call4_v5 : Ref sig .tc := ⟨.hbm, 90, rfl⟩
abbrev main_call4_v6 : Ref sig .tc := ⟨.hbm, 91, rfl⟩
abbrev main_call4_c_2 : Ref sig .tc := ⟨.hbm, 92, rfl⟩
abbrev main_call4_v7 : Ref sig .tc := ⟨.hbm, 93, rfl⟩
abbrev main_call4_v8 : Ref sig .tc := ⟨.hbm, 94, rfl⟩
abbrev main_call4_c_3 : Ref sig .tc := ⟨.hbm, 95, rfl⟩
abbrev main_call4_v9 : Ref sig .tc := ⟨.hbm, 96, rfl⟩
abbrev main_call4_v10 : Ref sig .tc := ⟨.hbm, 97, rfl⟩
abbrev main_call4_v11 : Ref sig .tc := ⟨.hbm, 98, rfl⟩
abbrev main_call4_v12 : Ref sig .tc := ⟨.hbm, 99, rfl⟩
abbrev main_call4_v13 : Ref sig .tc := ⟨.hbm, 100, rfl⟩
abbrev main_call4_v14 : Ref sig .tc := ⟨.hbm, 101, rfl⟩
abbrev main_v12 : Ref sig .tc := ⟨.hbm, 102, rfl⟩
abbrev main_cst : Ref sig .tc := ⟨.hbm, 103, rfl⟩
abbrev main_v13 : Ref sig .tc := ⟨.hbm, 104, rfl⟩
abbrev main_c_5 : Ref sig .tc := ⟨.hbm, 105, rfl⟩
abbrev main_v14 : Ref sig .tc := ⟨.hbm, 106, rfl⟩
abbrev main_v15 : Ref sig .tc := ⟨.hbm, 107, rfl⟩
abbrev main_c_6 : Ref sig .tc := ⟨.hbm, 108, rfl⟩
abbrev main_v16 : Ref sig .tc := ⟨.hbm, 109, rfl⟩
abbrev main_v17 : Ref sig .tc := ⟨.hbm, 110, rfl⟩
abbrev main_v18 : Ref sig .tc := ⟨.hbm, 111, rfl⟩
abbrev main_c_7 : Ref sig .tc := ⟨.hbm, 112, rfl⟩
abbrev main_v19 : Ref sig .tc := ⟨.hbm, 113, rfl⟩
abbrev main_v20 : Ref sig .tc := ⟨.hbm, 114, rfl⟩
abbrev main_c_8 : Ref sig .tc := ⟨.hbm, 115, rfl⟩
abbrev main_v21 : Ref sig .tc := ⟨.hbm, 116, rfl⟩
abbrev main_v22 : Ref sig .tc := ⟨.hbm, 117, rfl⟩
abbrev main_v23 : Ref sig .tc := ⟨.hbm, 118, rfl⟩
abbrev main_c_9 : Ref sig .tc := ⟨.hbm, 119, rfl⟩
abbrev main_v24 : Ref sig .tc := ⟨.hbm, 120, rfl⟩
abbrev main_v25 : Ref sig .tc := ⟨.hbm, 121, rfl⟩
abbrev main_c_10 : Ref sig .tc := ⟨.hbm, 122, rfl⟩
abbrev main_v26 : Ref sig .tc := ⟨.hbm, 123, rfl⟩
abbrev main_v27 : Ref sig .tc := ⟨.hbm, 124, rfl⟩
abbrev main_v28 : Ref sig .tc := ⟨.hbm, 125, rfl⟩
abbrev main_v29 : Ref sig .tc := ⟨.hbm, 126, rfl⟩
abbrev main_v30 : Ref sig .tc := ⟨.hbm, 127, rfl⟩
abbrev main_v31 : Ref sig .tc := ⟨.hbm, 128, rfl⟩
abbrev main_v32 : Ref sig .tc := ⟨.hbm, 129, rfl⟩
abbrev main_cst_11 : Ref sig .tc := ⟨.hbm, 130, rfl⟩
abbrev main_v33 : Ref sig .tc := ⟨.hbm, 131, rfl⟩
abbrev main_v34 : Ref sig .tc := ⟨.hbm, 132, rfl⟩
abbrev main_v35 : Ref sig .tc := ⟨.hbm, 133, rfl⟩
abbrev main_v36 : Ref sig .tc := ⟨.hbm, 134, rfl⟩
abbrev main_c_12 : Ref sig .tc := ⟨.hbm, 135, rfl⟩
abbrev main_v37 : Ref sig .tc := ⟨.hbm, 136, rfl⟩
abbrev main_v38 : Ref sig .tc := ⟨.hbm, 137, rfl⟩
abbrev main_v39 : Ref sig .tc := ⟨.hbm, 138, rfl⟩
abbrev main_v40 : Ref sig .tc := ⟨.hbm, 139, rfl⟩
abbrev main_v41 : Ref sig .tc := ⟨.hbm, 140, rfl⟩
abbrev main_v42 : Ref sig .tc := ⟨.hbm, 141, rfl⟩
abbrev main_cst_13 : Ref sig .tc := ⟨.hbm, 142, rfl⟩
abbrev main_cst_14 : Ref sig .tc := ⟨.hbm, 143, rfl⟩
abbrev main_call5_v0 : Ref sig .tc := ⟨.hbm, 144, rfl⟩
abbrev main_call5_v1 : Ref sig .tc := ⟨.hbm, 145, rfl⟩
abbrev main_call5_v2 : Ref sig .tc := ⟨.hbm, 146, rfl⟩
abbrev main_call5_v3 : Ref sig .tc := ⟨.hbm, 147, rfl⟩
abbrev main_call5_v4 : Ref sig .tc := ⟨.hbm, 148, rfl⟩
abbrev main_v43 : Ref sig .tc := ⟨.hbm, 149, rfl⟩
abbrev main_v44 : Ref sig .tc := ⟨.hbm, 150, rfl⟩
abbrev main_cst_15 : Ref sig .tc := ⟨.hbm, 151, rfl⟩
abbrev main_v45 : Ref sig .tc := ⟨.hbm, 152, rfl⟩
abbrev main_c_16 : Ref sig .tc := ⟨.hbm, 153, rfl⟩
abbrev main_v46 : Ref sig .tc := ⟨.hbm, 154, rfl⟩
abbrev main_v47 : Ref sig .tc := ⟨.hbm, 155, rfl⟩
abbrev main_c_17 : Ref sig .tc := ⟨.hbm, 156, rfl⟩
abbrev main_v48 : Ref sig .tc := ⟨.hbm, 157, rfl⟩
abbrev main_cst_18 : Ref sig .tc := ⟨.hbm, 158, rfl⟩
abbrev main_v49 : Ref sig .tc := ⟨.hbm, 159, rfl⟩
abbrev main_v50 : Ref sig .tc := ⟨.hbm, 160, rfl⟩
abbrev main_c_19 : Ref sig .tc := ⟨.hbm, 161, rfl⟩
abbrev main_v51 : Ref sig .tc := ⟨.hbm, 162, rfl⟩
abbrev main_v52 : Ref sig .tc := ⟨.hbm, 163, rfl⟩
abbrev main_c_20 : Ref sig .tc := ⟨.hbm, 164, rfl⟩
abbrev main_v53 : Ref sig .tc := ⟨.hbm, 165, rfl⟩
abbrev main_v54 : Ref sig .tc := ⟨.hbm, 166, rfl⟩
abbrev main_v55 : Ref sig .tc := ⟨.hbm, 167, rfl⟩
abbrev main_v56 : Ref sig .tc := ⟨.hbm, 168, rfl⟩
abbrev main_v57 : Ref sig .tc := ⟨.hbm, 169, rfl⟩
abbrev main_c_21 : Ref sig .tc := ⟨.hbm, 170, rfl⟩
abbrev main_v58 : Ref sig .tc := ⟨.hbm, 171, rfl⟩
abbrev main_v59 : Ref sig .tc := ⟨.hbm, 172, rfl⟩
abbrev main_c_22 : Ref sig .tc := ⟨.hbm, 173, rfl⟩
abbrev main_v60 : Ref sig .tc := ⟨.hbm, 174, rfl⟩
abbrev main_v61 : Ref sig .tc := ⟨.hbm, 175, rfl⟩
abbrev main_v62 : Ref sig .tc := ⟨.hbm, 176, rfl⟩
abbrev main_v63 : Ref sig .tc := ⟨.hbm, 177, rfl⟩
abbrev main_v64 : Ref sig .tc := ⟨.hbm, 178, rfl⟩
abbrev main_v65 : Ref sig .tc := ⟨.hbm, 179, rfl⟩
abbrev main_v66 : Ref sig .tc := ⟨.hbm, 180, rfl⟩
abbrev main_v67 : Ref sig .tc := ⟨.hbm, 181, rfl⟩
abbrev main_cst_23 : Ref sig .tc := ⟨.hbm, 182, rfl⟩
abbrev main_v68 : Ref sig .tc := ⟨.hbm, 183, rfl⟩
abbrev main_c_24 : Ref sig .tc := ⟨.hbm, 184, rfl⟩
abbrev main_v69 : Ref sig .tc := ⟨.hbm, 185, rfl⟩
abbrev main_v70 : Ref sig .tc := ⟨.hbm, 186, rfl⟩
abbrev main_c_25 : Ref sig .tc := ⟨.hbm, 187, rfl⟩
abbrev main_v71 : Ref sig .tc := ⟨.hbm, 188, rfl⟩
abbrev main_v72 : Ref sig .tc := ⟨.hbm, 189, rfl⟩
abbrev main_v73 : Ref sig .tc := ⟨.hbm, 190, rfl⟩
abbrev main_c_26 : Ref sig .tc := ⟨.hbm, 191, rfl⟩
abbrev main_v74 : Ref sig .tc := ⟨.hbm, 192, rfl⟩
abbrev main_v75 : Ref sig .tc := ⟨.hbm, 193, rfl⟩
abbrev main_c_27 : Ref sig .tc := ⟨.hbm, 194, rfl⟩
abbrev main_v76 : Ref sig .tc := ⟨.hbm, 195, rfl⟩
abbrev main_v77 : Ref sig .tc := ⟨.hbm, 196, rfl⟩
abbrev main_v78 : Ref sig .tc := ⟨.hbm, 197, rfl⟩
abbrev main_c_28 : Ref sig .tc := ⟨.hbm, 198, rfl⟩
abbrev main_v79 : Ref sig .tc := ⟨.hbm, 199, rfl⟩
abbrev main_v80 : Ref sig .tc := ⟨.hbm, 200, rfl⟩
abbrev main_c_29 : Ref sig .tc := ⟨.hbm, 201, rfl⟩
abbrev main_v81 : Ref sig .tc := ⟨.hbm, 202, rfl⟩
abbrev main_v82 : Ref sig .tc := ⟨.hbm, 203, rfl⟩
abbrev main_v83 : Ref sig .tc := ⟨.hbm, 204, rfl⟩
abbrev main_v84 : Ref sig .tc := ⟨.hbm, 205, rfl⟩
abbrev main_v85 : Ref sig .tc := ⟨.hbm, 206, rfl⟩
abbrev main_v86 : Ref sig .tc := ⟨.hbm, 207, rfl⟩
abbrev main_v87 : Ref sig .tc := ⟨.hbm, 208, rfl⟩
abbrev main_v88 : Ref sig .tc := ⟨.hbm, 209, rfl⟩
abbrev main_c_30 : Ref sig .tc := ⟨.hbm, 210, rfl⟩
abbrev main_v89 : Ref sig .tc := ⟨.hbm, 211, rfl⟩
abbrev main_cst_31 : Ref sig .tc := ⟨.hbm, 212, rfl⟩
abbrev main_v90 : Ref sig .tc := ⟨.hbm, 213, rfl⟩
abbrev main_v91 : Ref sig .tc := ⟨.hbm, 214, rfl⟩
abbrev main_c_32 : Ref sig .tc := ⟨.hbm, 215, rfl⟩
abbrev main_v92 : Ref sig .tc := ⟨.hbm, 216, rfl⟩
abbrev main_c_33 : Ref sig .tc := ⟨.hbm, 217, rfl⟩
abbrev main_v93 : Ref sig .tc := ⟨.hbm, 218, rfl⟩
abbrev main_v94 : Ref sig .tc := ⟨.hbm, 219, rfl⟩
abbrev main_cst_34 : Ref sig .tc := ⟨.hbm, 220, rfl⟩
abbrev main_v95 : Ref sig .tc := ⟨.hbm, 221, rfl⟩
abbrev main_v96 : Ref sig .tc := ⟨.hbm, 222, rfl⟩
abbrev main_v97 : Ref sig .tc := ⟨.hbm, 223, rfl⟩
abbrev main_c_35 : Ref sig .tc := ⟨.hbm, 224, rfl⟩
abbrev main_v98 : Ref sig .tc := ⟨.hbm, 225, rfl⟩
abbrev main_v99 : Ref sig .tc := ⟨.hbm, 226, rfl⟩
abbrev main_c_36 : Ref sig .tc := ⟨.hbm, 227, rfl⟩
abbrev main_v100 : Ref sig .tc := ⟨.hbm, 228, rfl⟩
abbrev main_v101 : Ref sig .tc := ⟨.hbm, 229, rfl⟩
abbrev main_v102 : Ref sig .tc := ⟨.hbm, 230, rfl⟩
abbrev main_c_37 : Ref sig .tc := ⟨.hbm, 231, rfl⟩
abbrev main_v103 : Ref sig .tc := ⟨.hbm, 232, rfl⟩
abbrev main_v104 : Ref sig .tc := ⟨.hbm, 233, rfl⟩
abbrev main_c_38 : Ref sig .tc := ⟨.hbm, 234, rfl⟩
abbrev main_v105 : Ref sig .tc := ⟨.hbm, 235, rfl⟩
abbrev main_v106 : Ref sig .tc := ⟨.hbm, 236, rfl⟩
abbrev main_v107 : Ref sig .tc := ⟨.hbm, 237, rfl⟩
abbrev main_v108 : Ref sig .tc := ⟨.hbm, 238, rfl⟩
abbrev main_v109 : Ref sig .tc := ⟨.hbm, 239, rfl⟩
abbrev main_v110 : Ref sig .tc := ⟨.hbm, 240, rfl⟩
abbrev main_cst_39 : Ref sig .tc := ⟨.hbm, 241, rfl⟩
abbrev main_v111 : Ref sig .tc := ⟨.hbm, 242, rfl⟩
abbrev main_v112 : Ref sig .tc := ⟨.hbm, 243, rfl⟩
abbrev main_c_40 : Ref sig .tc := ⟨.hbm, 244, rfl⟩
abbrev main_v113 : Ref sig .tc := ⟨.hbm, 245, rfl⟩
abbrev main_v114 : Ref sig .tc := ⟨.hbm, 246, rfl⟩
abbrev main_c_41 : Ref sig .tc := ⟨.hbm, 247, rfl⟩
abbrev main_v115 : Ref sig .tc := ⟨.hbm, 248, rfl⟩
abbrev main_v116 : Ref sig .tc := ⟨.hbm, 249, rfl⟩
abbrev main_v117 : Ref sig .tc := ⟨.hbm, 250, rfl⟩
abbrev main_c_42 : Ref sig .tc := ⟨.hbm, 251, rfl⟩
abbrev main_v118 : Ref sig .tc := ⟨.hbm, 252, rfl⟩
abbrev main_v119 : Ref sig .tc := ⟨.hbm, 253, rfl⟩
abbrev main_c_43 : Ref sig .tc := ⟨.hbm, 254, rfl⟩
abbrev main_v120 : Ref sig .tc := ⟨.hbm, 255, rfl⟩
abbrev main_v121 : Ref sig .tc := ⟨.hbm, 256, rfl⟩
abbrev main_v122 : Ref sig .tc := ⟨.hbm, 257, rfl⟩
abbrev main_c_44 : Ref sig .tc := ⟨.hbm, 258, rfl⟩
abbrev main_v123 : Ref sig .tc := ⟨.hbm, 259, rfl⟩
abbrev main_v124 : Ref sig .tc := ⟨.hbm, 260, rfl⟩
abbrev main_v125 : Ref sig .tc := ⟨.hbm, 261, rfl⟩
abbrev main_v126 : Ref sig .tc := ⟨.hbm, 262, rfl⟩
abbrev main_v127 : Ref sig .tc := ⟨.hbm, 263, rfl⟩
abbrev main_v128 : Ref sig .tc := ⟨.hbm, 264, rfl⟩
abbrev main_cst_45 : Ref sig .tc := ⟨.hbm, 265, rfl⟩
abbrev main_v129 : Ref sig .tc := ⟨.hbm, 266, rfl⟩
abbrev main_v130 : Ref sig .tc := ⟨.hbm, 267, rfl⟩
abbrev main_v131 : Ref sig .tc := ⟨.hbm, 268, rfl⟩
abbrev main_cst_46 : Ref sig .tc := ⟨.hbm, 269, rfl⟩
abbrev main_v132 : Ref sig .tc := ⟨.hbm, 270, rfl⟩
abbrev main_v133 : Ref sig .tc := ⟨.hbm, 271, rfl⟩
abbrev main_cst_47 : Ref sig .tc := ⟨.hbm, 272, rfl⟩
abbrev main_v134 : Ref sig .tc := ⟨.hbm, 273, rfl⟩
abbrev main_v135 : Ref sig .tc := ⟨.hbm, 274, rfl⟩
abbrev main_v136 : Ref sig .tc := ⟨.hbm, 275, rfl⟩
abbrev main_v137 : Ref sig .tc := ⟨.hbm, 276, rfl⟩
abbrev main_v138 : Ref sig .tc := ⟨.hbm, 277, rfl⟩
abbrev main_v139 : Ref sig .tc := ⟨.hbm, 278, rfl⟩
abbrev main_v140 : Ref sig .tc := ⟨.hbm, 279, rfl⟩
abbrev main_v141 : Ref sig .tc := ⟨.hbm, 280, rfl⟩
abbrev main_v142 : Ref sig .tc := ⟨.hbm, 281, rfl⟩
abbrev main_v143 : Ref sig .tc := ⟨.hbm, 282, rfl⟩
abbrev main_v144 : Ref sig .tc := ⟨.hbm, 283, rfl⟩
abbrev main_v145 : Ref sig .tc := ⟨.hbm, 284, rfl⟩
abbrev main_v146 : Ref sig .tc := ⟨.hbm, 285, rfl⟩
abbrev main_v147 : Ref sig .tc := ⟨.hbm, 286, rfl⟩
abbrev main_v148 : Ref sig .tc := ⟨.hbm, 287, rfl⟩
abbrev main_v149 : Ref sig .tc := ⟨.hbm, 288, rfl⟩
abbrev main_v150 : Ref sig .tc := ⟨.hbm, 289, rfl⟩
abbrev main_v151 : Ref sig .tc := ⟨.hbm, 290, rfl⟩
abbrev main_v152 : Ref sig .tc := ⟨.hbm, 291, rfl⟩
abbrev main_cst_48 : Ref sig .tc := ⟨.hbm, 292, rfl⟩
abbrev main_v153 : Ref sig .tc := ⟨.hbm, 293, rfl⟩
abbrev main_v154 : Ref sig .tc := ⟨.hbm, 294, rfl⟩
abbrev main_v155 : Ref sig .tc := ⟨.hbm, 295, rfl⟩
abbrev main_v156 : Ref sig .tc := ⟨.hbm, 296, rfl⟩
abbrev main_v157 : Ref sig .tc := ⟨.hbm, 297, rfl⟩
abbrev main_v158 : Ref sig .tc := ⟨.hbm, 298, rfl⟩
abbrev main_v159 : Ref sig .tc := ⟨.hbm, 299, rfl⟩
abbrev main_cst_49 : Ref sig .tc := ⟨.hbm, 300, rfl⟩
abbrev main_v160 : Ref sig .tc := ⟨.hbm, 301, rfl⟩
abbrev main_v161 : Ref sig .tc := ⟨.hbm, 302, rfl⟩
abbrev main_cst_50 : Ref sig .tc := ⟨.hbm, 303, rfl⟩
abbrev main_call6_v0 : Ref sig .tc := ⟨.hbm, 304, rfl⟩
abbrev main_call6_v1 : Ref sig .tc := ⟨.hbm, 305, rfl⟩
abbrev main_call6_v2 : Ref sig .tc := ⟨.hbm, 306, rfl⟩
abbrev main_v162 : Ref sig .tc := ⟨.hbm, 307, rfl⟩
abbrev main_cst_51 : Ref sig .tc := ⟨.hbm, 308, rfl⟩
abbrev main_v163 : Ref sig .tc := ⟨.hbm, 309, rfl⟩
abbrev main_cst_52 : Ref sig .tc := ⟨.hbm, 310, rfl⟩
abbrev main_v164 : Ref sig .tc := ⟨.hbm, 311, rfl⟩
abbrev main_v165 : Ref sig .tc := ⟨.hbm, 312, rfl⟩
abbrev main_v166 : Ref sig .tc := ⟨.hbm, 313, rfl⟩
abbrev main_v167 : Ref sig .tc := ⟨.hbm, 314, rfl⟩
abbrev main_v168 : Ref sig .tc := ⟨.hbm, 315, rfl⟩
abbrev main_v169 : Ref sig .tc := ⟨.hbm, 316, rfl⟩
abbrev main_cst_53 : Ref sig .tc := ⟨.hbm, 317, rfl⟩
abbrev main_v170 : Ref sig .tc := ⟨.hbm, 318, rfl⟩
abbrev main_v171 : Ref sig .tc := ⟨.hbm, 319, rfl⟩
abbrev main_v172 : Ref sig .tc := ⟨.hbm, 320, rfl⟩
abbrev main_v173 : Ref sig .tc := ⟨.hbm, 321, rfl⟩
abbrev main_v174 : Ref sig .tc := ⟨.hbm, 322, rfl⟩
abbrev main_v175 : Ref sig .tc := ⟨.hbm, 323, rfl⟩
abbrev main_v176 : Ref sig .tc := ⟨.hbm, 324, rfl⟩
abbrev main_v177 : Ref sig .tc := ⟨.hbm, 325, rfl⟩
abbrev main_cst_54 : Ref sig .tc := ⟨.hbm, 326, rfl⟩
abbrev main_v178 : Ref sig .tc := ⟨.hbm, 327, rfl⟩
abbrev main_v179 : Ref sig .tc := ⟨.hbm, 328, rfl⟩
abbrev main_v180 : Ref sig .tc := ⟨.hbm, 329, rfl⟩
abbrev main_cst_55 : Ref sig .tc := ⟨.hbm, 330, rfl⟩
abbrev main_call7_v0 : Ref sig .tc := ⟨.hbm, 331, rfl⟩
abbrev main_call7_v1 : Ref sig .tc := ⟨.hbm, 332, rfl⟩
abbrev main_call7_v2 : Ref sig .tc := ⟨.hbm, 333, rfl⟩
abbrev main_v181 : Ref sig .tc := ⟨.hbm, 334, rfl⟩
abbrev main_v182 : Ref sig .tc := ⟨.hbm, 335, rfl⟩
abbrev main_v183 : Ref sig .tc := ⟨.hbm, 336, rfl⟩
abbrev main_v184 : Ref sig .tc := ⟨.hbm, 337, rfl⟩
abbrev main_v185 : Ref sig .tc := ⟨.hbm, 338, rfl⟩
abbrev main_v186 : Ref sig .tc := ⟨.hbm, 339, rfl⟩
abbrev main_v187 : Ref sig .tc := ⟨.hbm, 340, rfl⟩
abbrev main_v188 : Ref sig .tc := ⟨.hbm, 341, rfl⟩
abbrev main_v189 : Ref sig .tc := ⟨.hbm, 342, rfl⟩
abbrev main_v190 : Ref sig .tc := ⟨.hbm, 343, rfl⟩

abbrev nD : Nat := 1
abbrev τ : Topo := Topo.v7x

variable {F : FTy → Type} [FloatOps F]
-- ==== Proof.PreFacts.lean ====
/- The side conditions that the precondition's operations take. -/
module

public import proofs.«01_k».proof.Pre_single_edges_and_finite

@[expose] public section

namespace Cert.Proof

open Idealize.ShloMosaic

/-- Every side condition of the precondition's operations holds: each is decided. -/
instance preFacts : Cert.Pre_single_edges_and_finite.Facts := by
  constructor <;> decide

end Cert.Proof
-- ==== Proof.Frames.lean ====
/- The claims about the runs: each program runs, leaves its arguments as they were and every semaphore at zero;
   and the two named constants are the printed ones. -/
module

public import proofs.«01_k».proof.Defs
public import proofs.«01_k».proof.Proof.PreFacts
public import proofs.«01_k».proof.Proof.Gen.Kernel.Frame
public import proofs.«01_k».proof.Proof.Gen.KernelIdeal.Frame
public import proofs.«01_k».proof.Proof.Gen.ReferenceIdeal.Run

@[expose] public section

namespace Cert.Proof

open Idealize.ShloMosaic Idealize.SL.Sem

/-- The kernel runs and ends with its arguments unchanged and its semaphores at zero. -/
theorem frame_kernel : Cert.quiescent_Kernel (hKernel := Cert.Kernel.Gen.facts) :=
  fun m g _ => Cert.Kernel.Gen.frame m g

/-- The idealized kernel runs and ends with its arguments unchanged and its semaphores at zero. -/
theorem frame_kernelIdeal : Cert.quiescent_KernelIdeal (hKernelIdeal := Cert.KernelIdeal.Gen.facts) :=
  fun m g _ => Cert.KernelIdeal.Gen.frame m g

/-- The reference runs and ends with its arguments unchanged and its semaphores at zero. -/
theorem frame_reference : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run (F := Ideal) m g)

/-- The two constants the kernel names stand for one fiftieth and minus infinity. -/
theorem constants : Cert.preserves_Kernel_KernelIdeal :=
  ⟨IdealRules.named_const.statement Cert.KernelIdeal.κ "inv_block" .f32 0x3CA3D70A#32 ((1 / 50 : ℝ) : EReal) rfl,
    IdealRules.named_const.statement Cert.KernelIdeal.κ "mask" .f32 0xF149F2CA#32 ⊥ rfl⟩

end Cert.Proof
-- ==== Proof.Block.lean ====
module

public import proofs.«01_k».proof.Proof.Gen.KernelIdeal.Skeleton

/-! One grid step of the kernel as an expression of the blocks it loads. The step works on four leaf blocks; each of them
has eight heads. A head, a leaf block's eight heads, the key rows, the attention rows and the four output rows are each
written here once, at any float type. -/

@[expose] public section

noncomputable section
namespace Cert.Proof

open Idealize.ShloMosaic Cert.KernelIdeal Cert.KernelIdeal.Gen

variable {F : FTy → Type} [FloatOps F] [Named F]

/-- The entries of the score table on the diagonal or in the block-mean column. -/
abbrev selfOrMean : IVec S56x64 1 := k0_pay22

/-- Which entries of the score table count, from the edge counts of one leaf block. -/
def allowed (m : Vec F S1x56x64 .f32) : IVec S56x64 1 :=
  andi (cmpi .slt (iota .tc S56x64 32 [1] iota_S56x64_d1_w32) (broadcast S56x64 51#32))
    (ori selfOrMean (cmpf .one (shapeCast S56x64 m shapeCasts_S1x56x64_S56x64)
      (broadcast S56x64 (Scalar.ofBits (F := F) .f32 0x00000000#32))))

/-- An edge feature of one leaf block, with the fixed word `w` on the diagonal and in the block-mean column. -/
def feature (w : BitVec 32) (f : Vec F S1x56x64 .f32) : FVec F S56x64 .f32 :=
  select selfOrMean (broadcast S56x64 (Scalar.ofBits (F := F) .f32 w)) (shapeCast S56x64 f shapeCasts_S1x56x64_S56x64)

/-- The masked scores of one head. -/
def headScores (c : IVec S56x64 1) (b : FVec F S56x64 .f32) (q : FVec F S56x32 .f32) (k : FVec F S64x32 .f32) :
    FVec F S56x64 .f32 :=
  select c (addf (mulf (matmul dot_S56x32_S64x32_S56x64_1_1_0_0_n_n none q k (constant S56x64 .f32 0x00000000#32))
    (broadcast S56x64 (Scalar.ofBits (F := F) .f32 0x3E3504F3#32))) b) (broadcast S56x64 (Named.named κ "mask" 0xF149F2CA#32))

/-- A number per row laid along the row. -/
def along (r : FVec F S56 .f32) : FVec F S56x64 .f32 :=
  broadcastTo S56x64 (shapeCast S56x1 r shapeCasts_S56_S56x1) broadcasts_S56x1_S56x64

/-- The exponentials of the scores less their row's largest. -/
def headExp (s : FVec F S56x64 .f32) : FVec F S56x64 .f32 :=
  exp (subf s (along (multiReduction .maximumf [1] S56 s 0xFF800000#32 reduces_S56x64_S56 (.inl rfl) rfl)))

/-- The softmax of the scores along each row. -/
def headProbs (s : FVec F S56x64 .f32) : FVec F S56x64 .f32 :=
  divf (headExp s) (along (multiReduction .add [1] S56 (headExp s) 0x00000000#32 reduces_S56x64_S56 (.inl rfl) rfl))

/-- The gate of one head: the four edge features weighed, plus the head's constant. -/
def headGate (b f0 f1 f2 : FVec F S56x64 .f32) (w : Fin 4 → Elt F .f32) (z : Elt F .f32) : FVec F S56x64 .f32 :=
  addf (addf (addf (addf (mulf f0 (broadcast S56x64 (w 0))) (mulf f1 (broadcast S56x64 (w 1))))
    (mulf f2 (broadcast S56x64 (w 2)))) (mulf b (broadcast S56x64 (w 3)))) (broadcast S56x64 z)

/-- The output of one head. -/
def head (c : IVec S56x64 1) (b f0 f1 f2 : FVec F S56x64 .f32) (q : FVec F S56x32 .f32) (k v : FVec F S64x32 .f32)
    (w : Fin 4 → Elt F .f32) (z : Elt F .f32) : FVec F S56x32 .f32 :=
  matmul dot_S56x64_S64x32_S56x32_1_0_0_1_n_n none
    (addf (headProbs (headScores c b q k))
      (select c (headGate b f0 f1 f2 w z) (broadcast S56x64 (Scalar.ofBits (F := F) .f32 0x00000000#32))))
    v (constant S56x32 .f32 0x00000000#32)

/-- The output of the head whose 32 columns start at column `o`. -/
def headAt (c : IVec S56x64 1) (b f0 f1 f2 : FVec F S56x64 .f32) (q : FVec F S56x256 .f32) (k v : FVec F S64x256 .f32)
    (w : Fin 4 → Elt F .f32) (z : Elt F .f32) (o : ℕ) (hq : S56x256.Slices ![0, o] S56x32) (hk : S64x256.Slices ![0, o] S64x32) :
    FVec F S56x32 .f32 :=
  head c b f0 f1 f2 (extractStridedSlice S56x32 ![0, o] q hq) (extractStridedSlice S64x32 ![0, o] k hk)
    (extractStridedSlice S64x32 ![0, o] v hk) w z

/-- The eight heads of one leaf block side by side. -/
def heads (c : IVec S56x64 1) (b f0 f1 f2 : FVec F S56x64 .f32) (q : FVec F S56x256 .f32) (k v : FVec F S64x256 .f32)
    (w : Fin 8 → Fin 4 → Elt F .f32) (z : Fin 8 → Elt F .f32) : FVec F S56x256 .f32 :=
  concatenate S56x256 1
    [⟨S56x32, headAt c b f0 f1 f2 q k v (w 0) (z 0) 0 slices_S56x256_o0_0_S56x32 slices_S64x256_o0_0_S64x32⟩,
     ⟨S56x32, headAt c b f0 f1 f2 q k v (w 1) (z 1) 32 slices_S56x256_o0_32_S56x32 slices_S64x256_o0_32_S64x32⟩,
     ⟨S56x32, headAt c b f0 f1 f2 q k v (w 2) (z 2) 64 slices_S56x256_o0_64_S56x32 slices_S64x256_o0_64_S64x32⟩,
     ⟨S56x32, headAt c b f0 f1 f2 q k v (w 3) (z 3) 96 slices_S56x256_o0_96_S56x32 slices_S64x256_o0_96_S64x32⟩,
     ⟨S56x32, headAt c b f0 f1 f2 q k v (w 4) (z 4) 128 slices_S56x256_o0_128_S56x32 slices_S64x256_o0_128_S64x32⟩,
     ⟨S56x32, headAt c b f0 f1 f2 q k v (w 5) (z 5) 160 slices_S56x256_o0_160_S56x32 slices_S64x256_o0_160_S64x32⟩,
     ⟨S56x32, headAt c b f0 f1 f2 q k v (w 6) (z 6) 192 slices_S56x256_o0_192_S56x32 slices_S64x256_o0_192_S64x32⟩,
     ⟨S56x32, headAt c b f0 f1 f2 q k v (w 7) (z 7) 224 slices_S56x256_o0_224_S56x32 slices_S64x256_o0_224_S64x32⟩]
    concatenates_S56x32_S56x32_S56x32_S56x32_S56x32_S56x32_S56x32_S56x32_S56x256_d1

/-- The attention rows of the leaf block whose key rows start at row `o` of the projected rows `u`. -/
def attend (u : FVec F S256x768 .f32) (m f0 f1 f2 f3 : Vec F S1x56x64 .f32)
    (w : Fin 8 → Fin 4 → Elt F .f32) (z : Fin 8 → Elt F .f32) (o : ℕ) (hq : S256x768.Slices ![o, 0] S56x256)
    (hk : S256x768.Slices ![o, 256] S64x256) (hv : S256x768.Slices ![o, 512] S64x256) : FVec F S56x256 .f32 :=
  shapeCast S56x256
    (heads (allowed m) (feature 0x3F800000#32 f3) (feature 0x00000000#32 f0) (feature 0x00000000#32 f1)
      (feature 0x00000000#32 f2) (extractStridedSlice S56x256 ![o, 0] u hq) (extractStridedSlice S64x256 ![o, 256] u hk)
      (extractStridedSlice S64x256 ![o, 512] u hv) w z)
    shapeCasts_S56x256_S56x256

/-- The fifty node rows of leaf block `g` of the step. -/
def nodeRows (x : Vec F S1x4x50x256 .f32) (g : ℕ) (h : S4x50x256.Slices ![g, 0, 0] S1x50x256) : FVec F S50x256 .f32 :=
  shapeCast S50x256 (shapeCast S50x256 (extractStridedSlice S1x50x256 ![g, 0, 0]
    (shapeCast S4x50x256 x shapeCasts_S1x4x50x256_S4x50x256) h) shapeCasts_S1x50x256_S50x256) shapeCasts_S50x256_S50x256

/-- The mean row of leaf block `g` of the step. -/
def meanRow (x : Vec F S1x4x50x256 .f32) (g : ℕ) (h : S4x256.Slices ![g, 0] S1x256) : FVec F S1x256 .f32 :=
  shapeCast S1x256 (extractStridedSlice S1x256 ![g, 0]
    (mulf (multiReduction .add [1] S4x256 (shapeCast S4x50x256 x shapeCasts_S1x4x50x256_S4x50x256) 0x00000000#32
      reduces_S4x50x256_S4x256 (.inl rfl) rfl) (broadcast S4x256 (Named.named κ "inv_block" 0x3CA3D70A#32))) h)
    shapeCasts_S1x256_S1x256

/-- The thirteen zero rows that fill a leaf block's key rows up to sixty-four. -/
def zeroRows : FVec F S13x256 .f32 :=
  shapeCast S13x256 (broadcast S13x256 (Scalar.ofBits (F := F) .f32 0x00000000#32)) shapeCasts_S13x256_S13x256

/-- The key rows of the step, piece by piece, the last written first. -/
def keyPieces (x : Vec F S1x4x50x256 .f32) : List (View.Piece (Elt F) S256x256 .f32) :=
  [⟨Rect.unit ![243, 0] S13x256.size inb_S256x256_S13x256_243_0, zeroRows⟩,
   ⟨Rect.unit ![242, 0] S1x256.size inb_S256x256_S1x256_242_0, meanRow x 3 slices_S4x256_o3_0_S1x256⟩,
   ⟨Rect.unit ![192, 0] S50x256.size inb_S256x256_S50x256_192_0, nodeRows x 3 slices_S4x50x256_o3_0_0_S1x50x256⟩,
   ⟨Rect.unit ![179, 0] S13x256.size inb_S256x256_S13x256_179_0, zeroRows⟩,
   ⟨Rect.unit ![178, 0] S1x256.size inb_S256x256_S1x256_178_0, meanRow x 2 slices_S4x256_o2_0_S1x256⟩,
   ⟨Rect.unit ![128, 0] S50x256.size inb_S256x256_S50x256_128_0, nodeRows x 2 slices_S4x50x256_o2_0_0_S1x50x256⟩,
   ⟨Rect.unit ![115, 0] S13x256.size inb_S256x256_S13x256_115_0, zeroRows⟩,
   ⟨Rect.unit ![114, 0] S1x256.size inb_S256x256_S1x256_114_0, meanRow x 1 slices_S4x256_o1_0_S1x256⟩,
   ⟨Rect.unit ![64, 0] S50x256.size inb_S256x256_S50x256_64_0, nodeRows x 1 slices_S4x50x256_o1_0_0_S1x50x256⟩,
   ⟨Rect.unit ![51, 0] S13x256.size inb_S256x256_S13x256_51_0, zeroRows⟩,
   ⟨Rect.unit ![50, 0] S1x256.size inb_S256x256_S1x256_50_0, meanRow x 0 slices_S4x256_o0_0_S1x256⟩,
   ⟨Rect.unit ![0, 0] S50x256.size inb_S256x256_S50x256_0_0, nodeRows x 0 slices_S4x50x256_o0_0_0_S1x50x256⟩]

/-- The attention rows of the step, piece by piece, the last written first. -/
def attnPieces (u : FVec F S256x768 .f32) (m f0 f1 f2 f3 : Fin 4 → Vec F S1x56x64 .f32)
    (w : Fin 8 → Fin 4 → Elt F .f32) (z : Fin 8 → Elt F .f32) : List (View.Piece (Elt F) S224x256 .f32) :=
  [⟨Rect.unit ![168, 0] S56x256.size inb_S224x256_S56x256_168_0, attend u (m 3) (f0 3) (f1 3) (f2 3) (f3 3) w z 192
     slices_S256x768_o192_0_S56x256 slices_S256x768_o192_256_S64x256 slices_S256x768_o192_512_S64x256⟩,
   ⟨Rect.unit ![112, 0] S56x256.size inb_S224x256_S56x256_112_0, attend u (m 2) (f0 2) (f1 2) (f2 2) (f3 2) w z 128
     slices_S256x768_o128_0_S56x256 slices_S256x768_o128_256_S64x256 slices_S256x768_o128_512_S64x256⟩,
   ⟨Rect.unit ![56, 0] S56x256.size inb_S224x256_S56x256_56_0, attend u (m 1) (f0 1) (f1 1) (f2 1) (f3 1) w z 64
     slices_S256x768_o64_0_S56x256 slices_S256x768_o64_256_S64x256 slices_S256x768_o64_512_S64x256⟩,
   ⟨Rect.unit ![0, 0] S56x256.size inb_S224x256_S56x256_0_0, attend u (m 0) (f0 0) (f1 0) (f2 0) (f3 0) w z 0
     slices_S256x768_o0_0_S56x256 slices_S256x768_o0_256_S64x256 slices_S256x768_o0_512_S64x256⟩]

/-- The fifty output rows of the leaf block whose rows start at row `o` of the projected attention rows. -/
def outRows (p : FVec F S224x256 .f32) (o : ℕ) (h : S224x256.Slices ![o, 0] S50x256) : FVec F S1x1x50x256 .f32 :=
  shapeCast S1x1x50x256 (extractStridedSlice S50x256 ![o, 0] p h) shapeCasts_S50x256_S1x1x50x256

/-- The output block of the step, piece by piece, the last written first. -/
def outPieces (p : FVec F S224x256 .f32) : List (View.Piece (Elt F) S1x4x50x256 .f32) :=
  [⟨Rect.unit ![0, 3, 0, 0] S1x1x50x256.size inb_S1x4x50x256_S1x1x50x256_0_3_0_0, outRows p 168 slices_S224x256_o168_0_S50x256⟩,
   ⟨Rect.unit ![0, 2, 0, 0] S1x1x50x256.size inb_S1x4x50x256_S1x1x50x256_0_2_0_0, outRows p 112 slices_S224x256_o112_0_S50x256⟩,
   ⟨Rect.unit ![0, 1, 0, 0] S1x1x50x256.size inb_S1x4x50x256_S1x1x50x256_0_1_0_0, outRows p 56 slices_S224x256_o56_0_S50x256⟩,
   ⟨Rect.unit ![0, 0, 0, 0] S1x1x50x256.size inb_S1x4x50x256_S1x1x50x256_0_0_0_0, outRows p 0 slices_S224x256_o0_0_S50x256⟩]

end Cert.Proof
-- ==== Proof.Mix.lean ====
/- One query row's attention over its keys: softmax weights plus gates, summed against the values. Keys that are masked out and
   carry no gate may be added or left out. -/
module

public import Idealize.ShloMosaic.PureOps.Ideal.Laws

@[expose] public section

namespace Cert.Proof

open Idealize.ShloMosaic

/-- The greatest score of a row. -/
noncomputable def peak {ι : Type} [Fintype ι] (s : ι → EReal) : EReal := Finset.univ.sup s

/-- The sum of a row's exponentials, each score shifted by the greatest. -/
noncomputable def mass {ι : Type} [Fintype ι] (s : ι → EReal) : EReal := ∑ k, Ideal.exp (s k - peak s)

/-- A row of scores `s`, gates `g` and values `v`: each value weighted by its softmax weight plus its gate. -/
noncomputable def mix {ι : Type} [Fintype ι] (s g v : ι → EReal) : EReal :=
  ∑ k, (Ideal.div (Ideal.exp (s k - peak s)) (mass s) + g k) * v k

/-- An exponential is never negative. -/
theorem exp_nonneg (x : EReal) : 0 ≤ Ideal.exp x := by
  induction x with
  | bot => exact le_refl _
  | top => exact le_top
  | coe r => exact EReal.coe_nonneg.2 (Real.exp_pos r).le

/-- A row whose scores are all below `⊤`, one of them above `⊥`, has a mass that is not zero: its greatest score counts one. -/
theorem mass_ne_zero {ι : Type} [Fintype ι] (s : ι → EReal) (ht : ∀ k, s k ≠ ⊤) (hb : ∃ k, s k ≠ ⊥) : mass s ≠ 0 := by
  obtain ⟨k1, hk1⟩ := hb
  obtain ⟨k0, -, hk0⟩ := Finset.exists_mem_eq_sup (Finset.univ : Finset ι) ⟨k1, Finset.mem_univ _⟩ s
  have hle : s k1 ≤ peak s := Finset.le_sup (f := s) (Finset.mem_univ k1)
  have h0 : peak s = s k0 := hk0
  have hpb : s k0 ≠ ⊥ := fun h => hk1 (le_bot_iff.1 (by rw [← h, ← h0]; exact hle))
  have h1 : Ideal.exp (s k0 - peak s) = 1 := by
    rw [h0]
    have ht0 := ht k0
    generalize s k0 = x at hpb ht0
    induction x with
    | bot => exact absurd rfl hpb
    | top => exact absurd rfl ht0
    | coe r =>
      rw [← EReal.coe_sub, sub_self]
      show ((Real.exp 0 : ℝ) : EReal) = 1
      rw [Real.exp_zero]; rfl
  have : (1 : EReal) ≤ mass s := by
    rw [← h1]
    exact Finset.single_le_sum (f := fun k => Ideal.exp (s k - peak s)) (fun k _ => exp_nonneg _) (Finset.mem_univ k0)
  intro h
  rw [h] at this
  exact absurd this (by norm_num)

/-- The lower infinity less anything is the lower infinity. -/
theorem bot_sub_eq (x : EReal) : (⊥ : EReal) - x = ⊥ := by
  rw [sub_eq_add_neg, EReal.bot_add]

/-- Zero over anything but zero is zero. -/
theorem div_zero_left {y : EReal} (h : y ≠ 0) : Ideal.div 0 y = 0 := by
  unfold Ideal.div
  rw [if_neg h, zero_mul]

/-- Masked keys without a gate, put after the others, change nothing, as long as the mass of the others is not zero. -/
theorem mix_append {n m : ℕ} (s g v : Fin (n + m) → EReal) (hs : ∀ i : Fin m, s (Fin.natAdd n i) = ⊥) (hg : ∀ i : Fin m, g (Fin.natAdd n i) = 0)
    (hm : mass (fun i : Fin n => s (Fin.castAdd m i)) ≠ 0) :
    mix s g v = mix (fun i : Fin n => s (Fin.castAdd m i)) (fun i => g (Fin.castAdd m i)) (fun i => v (Fin.castAdd m i)) := by
  have hp : peak s = peak (fun i : Fin n => s (Fin.castAdd m i)) := by
    refine le_antisymm (Finset.sup_le fun k _ => ?_) (Finset.sup_le fun i _ => Finset.le_sup (f := s) (Finset.mem_univ _))
    refine Fin.addCases (fun i => ?_) (fun i => ?_) k
    · exact Finset.le_sup (f := fun i : Fin n => s (Fin.castAdd m i)) (Finset.mem_univ i)
    · rw [hs]; exact bot_le
  have he : ∀ i : Fin m, Ideal.exp (s (Fin.natAdd n i) - peak s) = 0 := fun i => by rw [hs, bot_sub_eq]; rfl
  have hmass : mass s = mass (fun i : Fin n => s (Fin.castAdd m i)) := by
    unfold mass
    rw [Fin.sum_univ_add, Finset.sum_eq_zero (fun i _ => he i), add_zero, hp]
  unfold mix
  rw [Fin.sum_univ_add, Finset.sum_eq_zero (s := (Finset.univ : Finset (Fin m))), add_zero, hmass, hp]
  intro i _
  rw [he, hg, hmass, div_zero_left hm, zero_add, zero_mul]

end Cert.Proof
-- ==== Proof.HeadRead.lean ====
module

public import proofs.«01_k».proof.Proof.Block
public import proofs.«01_k».proof.Proof.Gen.KernelIdeal
public import proofs.«01_k».proof.Proof.Mix
public import Idealize.ShloMosaic.Lib.MatmulPlain
public import Idealize.ShloMosaic.Lib.ValueIdx
public import Idealize.ShloMosaic.Lib.ValueLayoutCasts

/-! Block.lean's expressions at ideal numbers, read entry by entry. -/

@[expose] public section

noncomputable section
namespace Cert.Proof

open Idealize.ShloMosaic Idealize.ShloMosaic.ValueIdx Cert.KernelIdeal Cert.KernelIdeal.Gen

/-- The factor of every score. -/
abbrev scale : EReal := Ideal.ofBits .f32 0x3E3504F3#32

/-- The word of minus infinity names the least ideal number. -/
theorem ofBits_least : Ideal.ofBits .f32 0xFF800000#32 = ⊥ := by
  simp [Ideal.ofBits, Ideal.ieee]

/-- The word of zero names zero. -/
theorem ofBits_zero : Ideal.ofBits .f32 0x00000000#32 = 0 := by
  simp [Ideal.ofBits, Ideal.ieee]

/-- The word of one names one. -/
theorem ofBits_one : Ideal.ofBits .f32 0x3F800000#32 = 1 := by
  simp [Ideal.ofBits, Ideal.ieee, -EReal.coe_mul]; norm_num

/-- The entry of a row a reduction along the row goes over. -/
theorem row_lift (h : S56x64.Reduces [1] S56) (i : Fin 56) (k : Fin 64) : h.lift (ix1 i) k = ix2 i k := by
  funext a; match a with | ⟨0, _⟩ => rfl | ⟨1, _⟩ => rfl

/-- A number per row laid along the row is the row's number. -/
theorem along_apply (r : FVec Ideal S56 .f32) (i : Fin 56) (k : Fin 64) : along r (ix2 i k) = r (ix1 i) := by
  unfold along
  rw [broadcastTo_apply _ _ _ (ix2 i 0) (by intro a; match a with | ⟨0, _⟩ => rfl | ⟨1, _⟩ => rfl), shapeCast_a_a1_apply]

/-- The masked score of a query row against a key row. -/
theorem headScores_apply (c : IVec S56x64 1) (b : FVec Ideal S56x64 .f32) (q : FVec Ideal S56x32 .f32) (k : FVec Ideal S64x32 .f32)
    (i : Fin 56) (j : Fin 64) :
    headScores c b q k (ix2 i j) =
      if c (ix2 i j) = 1#1 then (∑ d : Fin 32, q (ix2 i d) * k (ix2 j d)) * scale + b (ix2 i j) else ⊥ := by
  have hm : (FloatOps.matmul (F := Ideal) dot_S56x32_S64x32_S56x64_1_1_0_0_n_n none q k (constant S56x64 .f32 0x00000000#32)) (ix2 i j)
      = ∑ d : Fin 32, q (ix2 i d) * k (ix2 j d) := by
    have h := Ideal.matmul_transposedRhs_apply (M := 56) (K := 32) (N := 64) none q k (constant S56x64 .f32 0x00000000#32) i j
    rw [show (constant (F := Ideal) S56x64 .f32 0x00000000#32) (ix2 i j) = 0 from ofBits_zero, zero_add] at h
    exact h
  unfold headScores
  rw [← hm, ← show Named.named (F := Ideal) κ "mask" 0xF149F2CA#32 = (⊥ : EReal) from IdealRules.named_const.ideal_named_scalar _ _ _ _ rfl]
  rfl

/-- The largest entry of a row. -/
theorem rowMax_apply (s : FVec Ideal S56x64 .f32) (i : Fin 56) :
    multiReduction (F := Ideal) .maximumf [1] S56 s 0xFF800000#32 reduces_S56x64_S56 (.inl rfl) rfl (ix1 i) = peak fun k : Fin 64 => s (ix2 i k) := by
  refine (Ideal.multiReduction_maximumf_single s _ _ _ _ _).trans ?_
  show Finset.fold max (Ideal.ofBits .f32 0xFF800000#32) _ _ = _
  rw [ofBits_least]
  exact congrArg (Finset.univ.sup) (funext fun k => congrArg s (row_lift _ i k))

/-- The sum of a row. -/
theorem rowSum_apply (s : FVec Ideal S56x64 .f32) (i : Fin 56) :
    multiReduction (F := Ideal) .add [1] S56 s 0x00000000#32 reduces_S56x64_S56 (.inl rfl) rfl (ix1 i) = ∑ k : Fin 64, s (ix2 i k) :=
  (Ideal.multiReduction_add_single s _ _ _ _ _).trans (Finset.sum_congr rfl fun k _ => congrArg s (row_lift _ i k))

/-- The exponential of an entry less the largest of its row. -/
theorem headExp_apply (s : FVec Ideal S56x64 .f32) (i : Fin 56) (k : Fin 64) :
    headExp s (ix2 i k) = Ideal.exp (s (ix2 i k) - peak fun k => s (ix2 i k)) :=
  congrArg (fun t => Ideal.exp (s (ix2 i k) - t)) ((along_apply _ i k).trans (rowMax_apply s i))

/-- The softmax weight of an entry, by its row's scores. -/
theorem headProbs_apply (s : FVec Ideal S56x64 .f32) (i : Fin 56) (j : Fin 64) :
    headProbs s (ix2 i j) = Ideal.div (Ideal.exp (s (ix2 i j) - peak fun k => s (ix2 i k))) (mass fun k : Fin 64 => s (ix2 i k)) :=
  congrArg₂ Ideal.div (headExp_apply s i j) ((along_apply _ i j).trans ((rowSum_apply _ i).trans
    (Finset.sum_congr rfl fun k _ => headExp_apply s i k)))

/-- The gate of an entry. -/
theorem headGate_apply (b f0 f1 f2 : FVec Ideal S56x64 .f32) (w : Fin 4 → EReal) (z : EReal) (i : Fin 56) (j : Fin 64) :
    headGate (F := Ideal) b f0 f1 f2 w z (ix2 i j) =
      f0 (ix2 i j) * w 0 + f1 (ix2 i j) * w 1 + f2 (ix2 i j) * w 2 + b (ix2 i j) * w 3 + z := rfl

/-- An entry of a head's output is the row's values mixed by its scores and gates. -/
theorem head_apply (c : IVec S56x64 1) (b f0 f1 f2 : FVec Ideal S56x64 .f32) (q : FVec Ideal S56x32 .f32) (k v : FVec Ideal S64x32 .f32)
    (w : Fin 4 → EReal) (z : EReal) (i : Fin 56) (d : Fin 32) :
    head (F := Ideal) c b f0 f1 f2 q k v w z (ix2 i d) =
      mix (fun j : Fin 64 => headScores c b q k (ix2 i j))
        (fun j => if c (ix2 i j) = 1#1 then headGate (F := Ideal) b f0 f1 f2 w z (ix2 i j) else 0) (fun j => v (ix2 j d)) := by
  unfold head
  refine (Ideal.matmul_plain_apply (M := 56) (K := 64) (N := 32) none _ v (constant S56x32 .f32 0x00000000#32) i d).trans ?_
  rw [show (constant (F := Ideal) S56x32 .f32 0x00000000#32) (ix2 i d) = 0 from ofBits_zero, zero_add]
  unfold mix
  refine Finset.sum_congr rfl fun j _ => ?_
  congr 1
  show headProbs (headScores c b q k) (ix2 i j) + Scalar.select _ _ (Ideal.ofBits .f32 0x00000000#32) = _
  rw [headProbs_apply, ofBits_zero]
  rfl

end Cert.Proof
-- ==== Proof.StepRead.lean ====
module

public import proofs.«01_k».proof.Proof.HeadRead
public import Idealize.ShloMosaic.Lib.Ring

/-! The key rows, attention rows and output rows of one grid step at ideal numbers, entry by entry. -/

@[expose] public section

noncomputable section
namespace Cert.Proof

open Idealize.ShloMosaic Idealize.ShloMosaic.ValueIdx Cert.KernelIdeal Cert.KernelIdeal.Gen

/-- The share of one node in its leaf block's mean. -/
abbrev share : EReal := ((1 / 50 : ℝ) : EReal)

/-- Key row `r` of leaf block `g`: the fifty nodes, then their mean, then zeros. -/
def keyRow (x : Vec Ideal S1x4x50x256 .f32) (g : Fin 4) (r : ℕ) (c : Fin 256) : EReal :=
  if h : r < 50 then x (ix4 0 g ⟨r, h⟩ c) else if r = 50 then (∑ p : Fin 50, x (ix4 0 g p c)) * share else 0

/-- The key rows of the four leaf blocks, sixty-four apiece. -/
def keyTable (x : Vec Ideal S1x4x50x256 .f32) (y : S256x256.Idx) : EReal :=
  keyRow x ⟨(y 0).val / 64, by have : (y 0).val < 256 := (y 0).isLt; omega⟩ ((y 0).val % 64) (y 1)

/-- The table of key rows, by leaf block and row. -/
theorem keyTable_at (x : Vec Ideal S1x4x50x256 .f32) (y : S256x256.Idx) (g : Fin 4) (r : ℕ) (hr : r < 64) (c : Fin 256)
    (h0 : (y 0).val = 64 * g.val + r) (h1 : (y 1).val = c.val) : keyTable x y = keyRow x g r c := by
  unfold keyTable
  have e0 : (⟨(y 0).val / 64, by have : (y 0).val < 256 := (y 0).isLt; omega⟩ : Fin 4) = g := Fin.ext (by show _ / 64 = _; omega)
  have e1 : (y 0).val % 64 = r := by omega
  have e2 : y 1 = c := Fin.ext h1
  rw [e0, e1, e2]

/-- The place of an entry of a rectangle of unit steps along an axis. -/
theorem place {s : Shape} (off size : Fin s.rank → ℕ) (inb : ∀ a, off a + size a ≤ s.size a)
    (y : (Rect.unit off size inb).shape.Idx) (a : Fin s.rank) : ((Rect.unit off size inb).emb y a).val = off a + (y a).val := by
  show off a + 1 * (y a).val = _
  rw [Nat.one_mul]

/-- A node's row of a leaf block. -/
theorem nodeRows_apply (x : Vec Ideal S1x4x50x256 .f32) (g : Fin 4) (h : S4x50x256.Slices ![g.val, 0, 0] S1x50x256) (r : Fin 50)
    (c : Fin 256) : nodeRows x g.val h (ix2 r c) = x (ix4 0 g r c) := by
  unfold nodeRows
  rw [shapeCast_self, shapeCast_1ab_ab_apply,
    extractStridedSlice_apply _ _ _ _ (ix3 g r c) (by intro a; match a with | ⟨0, _⟩ => rfl | ⟨1, _⟩ => exact (Nat.zero_add _).symm | ⟨2, _⟩ => exact (Nat.zero_add _).symm),
    shapeCast_1abc_abc_apply]

/-- The mean row of a leaf block. -/
theorem meanRow_apply (x : Vec Ideal S1x4x50x256 .f32) (g : Fin 4) (h : S4x256.Slices ![g.val, 0] S1x256) (u : Fin 1)
    (c : Fin 256) : meanRow x g.val h (ix2 u c) = (∑ p : Fin 50, x (ix4 0 g p c)) * share := by
  unfold meanRow
  rw [shapeCast_self,
    extractStridedSlice_apply _ _ _ _ (ix2 g c) (by intro a; match a with | ⟨0, _⟩ => (show g.val = g.val + u.val; omega) | ⟨1, _⟩ => exact (Nat.zero_add _).symm)]
  refine congrArg₂ (fun a b : EReal => a * b) ?_ (IdealRules.named_const.ideal_named_scalar _ _ _ _ rfl)
  refine (Ideal.multiReduction_add_single _ _ _ _ _ _).trans (Finset.sum_congr rfl fun p _ => ?_)
  have e : (reduces_S4x50x256_S4x256).lift (ix2 g c) p = ix3 g p c := by
    funext a; match a with | ⟨0, _⟩ => rfl | ⟨1, _⟩ => rfl | ⟨2, _⟩ => rfl
  exact (congrArg _ e).trans (shapeCast_1abc_abc_apply _ _ _ _ _)

/-- The filling rows are zero. -/
theorem zeroRows_apply (y : S13x256.Idx) : zeroRows (F := Ideal) y = 0 := ofBits_zero

/-- The piece of a leaf block's nodes agrees with the table of key rows. -/
theorem node_piece (x : Vec Ideal S1x4x50x256 .f32) (g : Fin 4) (o : ℕ) (ho : o = 64 * g.val)
    (inb : ∀ a, (![o, 0] : Fin 2 → ℕ) a + S50x256.size a ≤ S256x256.size a) (h : S4x50x256.Slices ![g.val, 0, 0] S1x50x256)
    (y : S50x256.Idx) : nodeRows x g.val h y = keyTable x ((Rect.unit (s := S256x256) ![o, 0] S50x256.size inb).emb y) := by
  have hy : (y 0).val < 50 := (y 0).isLt
  rw [keyTable_at x _ g (y 0).val (by omega) (y 1) (by rw [← ho]; exact place (s := S256x256) ![o, 0] S50x256.size inb y 0) ((place (s := S256x256) ![o, 0] S50x256.size inb y 1).trans (Nat.zero_add _))]
  unfold keyRow
  rw [dif_pos hy]
  conv_lhs => rw [eq_ix2 y]
  exact nodeRows_apply x g h (y 0) (y 1)

/-- The piece of a leaf block's mean agrees with the table of key rows. -/
theorem mean_piece (x : Vec Ideal S1x4x50x256 .f32) (g : Fin 4) (o : ℕ) (ho : o = 64 * g.val + 50)
    (inb : ∀ a, (![o, 0] : Fin 2 → ℕ) a + S1x256.size a ≤ S256x256.size a) (h : S4x256.Slices ![g.val, 0] S1x256)
    (y : S1x256.Idx) : meanRow x g.val h y = keyTable x ((Rect.unit (s := S256x256) ![o, 0] S1x256.size inb).emb y) := by
  have hy : (y 0).val < 1 := (y 0).isLt
  rw [keyTable_at x _ g 50 (by omega) (y 1) (by rw [← ho]; refine (place (s := S256x256) ![o, 0] S1x256.size inb y 0).trans ?_; show o + (y 0).val = o; omega) ((place (s := S256x256) ![o, 0] S1x256.size inb y 1).trans (Nat.zero_add _))]
  unfold keyRow
  rw [dif_neg (by omega), if_pos rfl]
  conv_lhs => rw [eq_ix2 y]
  exact meanRow_apply x g h (y 0) (y 1)

/-- The piece of a leaf block's filling rows agrees with the table of key rows. -/
theorem zero_piece (x : Vec Ideal S1x4x50x256 .f32) (g : Fin 4) (o : ℕ) (ho : o = 64 * g.val + 51)
    (inb : ∀ a, (![o, 0] : Fin 2 → ℕ) a + S13x256.size a ≤ S256x256.size a)
    (y : S13x256.Idx) : zeroRows (F := Ideal) y = keyTable x ((Rect.unit (s := S256x256) ![o, 0] S13x256.size inb).emb y) := by
  have hy : (y 0).val < 13 := (y 0).isLt
  rw [keyTable_at x _ g (51 + (y 0).val) (by omega) (y 1) (by refine (place (s := S256x256) ![o, 0] S13x256.size inb y 0).trans ?_; show o + (y 0).val = _; omega) ((place (s := S256x256) ![o, 0] S13x256.size inb y 1).trans (Nat.zero_add _))]
  unfold keyRow
  rw [dif_neg (by omega), if_neg (by omega)]
  exact zeroRows_apply y

/-- The stored key rows are the table of key rows. -/
theorem canon_keyPieces (x : Vec Ideal S1x4x50x256 .f32) (y : S256x256.Idx) :
    View.canon (keyPieces x) y = keyTable x y := by
  refine View.canon_apply_of_pieces (keyTable x) _ ?_ y (View.cover_of_tiledBy (keyPieces x) S1x256.size (by sl_kernel_rfl) y)
  intro p hp
  simp only [keyPieces, List.mem_cons, List.not_mem_nil, or_false] at hp
  rcases hp with rfl | rfl | rfl | rfl | rfl | rfl | rfl | rfl | rfl | rfl | rfl | rfl
  · exact zero_piece x 3 243 rfl inb_S256x256_S13x256_243_0
  · exact mean_piece x 3 242 rfl inb_S256x256_S1x256_242_0 slices_S4x256_o3_0_S1x256
  · exact node_piece x 3 192 rfl inb_S256x256_S50x256_192_0 slices_S4x50x256_o3_0_0_S1x50x256
  · exact zero_piece x 2 179 rfl inb_S256x256_S13x256_179_0
  · exact mean_piece x 2 178 rfl inb_S256x256_S1x256_178_0 slices_S4x256_o2_0_S1x256
  · exact node_piece x 2 128 rfl inb_S256x256_S50x256_128_0 slices_S4x50x256_o2_0_0_S1x50x256
  · exact zero_piece x 1 115 rfl inb_S256x256_S13x256_115_0
  · exact mean_piece x 1 114 rfl inb_S256x256_S1x256_114_0 slices_S4x256_o1_0_S1x256
  · exact node_piece x 1 64 rfl inb_S256x256_S50x256_64_0 slices_S4x50x256_o1_0_0_S1x50x256
  · exact zero_piece x 0 51 rfl inb_S256x256_S13x256_51_0
  · exact mean_piece x 0 50 rfl inb_S256x256_S1x256_50_0 slices_S4x256_o0_0_S1x256
  · exact node_piece x 0 0 rfl inb_S256x256_S50x256_0_0 slices_S4x50x256_o0_0_0_S1x50x256

end Cert.Proof
-- ==== Proof.AttnRead.lean ====
module

public import proofs.«01_k».proof.Proof.StepRead
public import Idealize.ShloMosaic.Lib.WordCmp

/-! The attention rows and the output rows of one grid step at ideal numbers, entry by entry. -/

@[expose] public section

noncomputable section
namespace Cert.Proof

open Idealize.ShloMosaic Idealize.ShloMosaic.ValueIdx Cert.KernelIdeal Cert.KernelIdeal.Gen

/-- Column `d` of head `h` among the 256 columns of the eight heads. -/
abbrev col (h : Fin 8) (d : Fin 32) : Fin 256 := ⟨32 * h.val + d.val, by omega⟩

/-- One of two truth words holds. -/
theorem or_word (p q : BitVec 1) : IntOp.ori p q = 1 ↔ (p = 1 ∨ q = 1) := by
  revert p q; decide

/-- Both truth words hold. -/
theorem and_word (p q : BitVec 1) : IntOp.andi p q = 1 ↔ (p = 1 ∧ q = 1) := by
  revert p q; decide

/-- A word comparison of two small numbers is the comparison of the numbers. -/
theorem small_eq {a b : ℕ} (ha : a < 64) (hb : b < 64) : (BitVec.ofNat 32 a = BitVec.ofNat 32 b) ↔ a = b := by
  rw [← BitVec.toNat_inj]
  simp only [BitVec.toNat_ofNat]
  omega

/-- The entries on the diagonal or in the block-mean column. -/
theorem selfOrMean_apply (i : Fin 56) (j : Fin 64) : selfOrMean (ix2 i j) = 1 ↔ (j.val = 50 ∨ j.val = i.val) := by
  have hj := j.isLt
  have hi := i.isLt
  show IntOp.ori (IntOp.cmpi .eq (iota .tc S56x64 32 [1] iota_S56x64_d1_w32 (ix2 i j)) (BitVec.ofNat 32 50))
    (IntOp.cmpi .eq (iota .tc S56x64 32 [1] iota_S56x64_d1_w32 (ix2 i j)) (iota .tc S56x64 32 [0] iota_S56x64_d0_w32 (ix2 i j))) = 1 ↔ _
  rw [iota_single_apply, iota_single_apply, WordCmp.cmpi_eq_eq, WordCmp.cmpi_eq_eq, WordCmp.ori_ofBool, WordCmp.ofBool_eq_one_iff',
    Bool.or_eq_true, decide_eq_true_iff, decide_eq_true_iff]
  exact or_congr (small_eq hj (by omega)) (small_eq hj (by show i.val < 64; omega))

/-- Which entries of the score table count. -/
theorem allowed_apply (m : Vec Ideal S1x56x64 .f32) (i : Fin 56) (j : Fin 64) :
    allowed m (ix2 i j) = 1 ↔ j.val < 51 ∧ ((j.val = 50 ∨ j.val = i.val) ∨ m (ix3 0 i j) ≠ 0) := by
  have hj := j.isLt
  show IntOp.andi (IntOp.cmpi .slt (iota .tc S56x64 32 [1] iota_S56x64_d1_w32 (ix2 i j)) (BitVec.ofNat 32 51))
    (IntOp.ori (selfOrMean (ix2 i j)) (Ideal.cmp .one (shapeCast S56x64 m shapeCasts_S1x56x64_S56x64 (ix2 i j)) (Ideal.ofBits .f32 0x00000000#32))) = 1 ↔ _
  rw [iota_single_apply, WordCmp.cmpi_slt_eq, shapeCast_1ab_ab_apply, ofBits_zero,
    WordCmp.toInt_ofNat_of_lt (w := 32) (a := (ix2 i j 1).val) (by show j.val < _; omega), WordCmp.toInt_ofNat_of_lt (w := 32) (a := 51) (by norm_num), and_word, or_word,
    WordCmp.ofBool_eq_one_iff', selfOrMean_apply, decide_eq_true_iff, Nat.cast_lt]
  refine and_congr Iff.rfl (or_congr Iff.rfl ?_)
  show BitVec.ofBool (decide (_ ≠ _)) = 1 ↔ _
  rw [WordCmp.ofBool_eq_one_iff', decide_eq_true_iff]

/-- A masked edge feature. -/
theorem feature_apply (w : BitVec 32) (f : Vec Ideal S1x56x64 .f32) (i : Fin 56) (j : Fin 64) :
    feature w f (ix2 i j) = if j.val = 50 ∨ j.val = i.val then Ideal.ofBits .f32 w else f (ix3 0 i j) := by
  unfold feature
  show Scalar.select (selfOrMean (ix2 i j)) (Ideal.ofBits .f32 w) (shapeCast S56x64 f _ (ix2 i j)) = _
  rw [shapeCast_1ab_ab_apply]
  exact if_congr (selfOrMean_apply i j) rfl rfl

/-- The thirty-two columns of a head are a slice of the queries, -/
theorem query_slices (n : Fin 8) : S56x256.Slices ![0, 32 * n.val] S56x32 := by revert n; decide
/-- and of the keys and values. -/
theorem key_slices (n : Fin 8) : S64x256.Slices ![0, 32 * n.val] S64x32 := by revert n; decide

/-- A slice of one head's columns. -/
theorem head_slice {R : ℕ} (x : FVec Ideal (⟨2, ![R, 256]⟩ : Shape) .f32) (n : Fin 8)
    (hs : (⟨2, ![R, 256]⟩ : Shape).Slices ![0, 32 * n.val] ⟨2, ![R, 32]⟩) (i : Fin R) (d : Fin 32) :
    extractStridedSlice ⟨2, ![R, 32]⟩ ![0, 32 * n.val] x hs (ix2 i d) = x (ix2 i (col n d)) :=
  extractStridedSlice_apply _ _ _ _ _ (by intro a; match a with | ⟨0, _⟩ => exact (Nat.zero_add _).symm | ⟨1, _⟩ => rfl)

/-- An entry of the eight heads side by side. -/
theorem heads_apply (c : IVec S56x64 1) (b f0 f1 f2 : FVec Ideal S56x64 .f32) (q : FVec Ideal S56x256 .f32) (k v : FVec Ideal S64x256 .f32)
    (w : Fin 8 → Fin 4 → EReal) (z : Fin 8 → EReal) (i : Fin 56) (n : Fin 8) (d : Fin 32) :
    heads (F := Ideal) c b f0 f1 f2 q k v w z (ix2 i (col n d)) =
      mix (fun j : Fin 64 => if c (ix2 i j) = 1#1 then (∑ e : Fin 32, q (ix2 i (col n e)) * k (ix2 j (col n e))) * scale + b (ix2 i j) else ⊥)
        (fun j => if c (ix2 i j) = 1#1 then
          f0 (ix2 i j) * w n 0 + f1 (ix2 i j) * w n 1 + f2 (ix2 i j) * w n 2 + b (ix2 i j) * w n 3 + z n else 0)
        (fun j => v (ix2 j (col n d))) := by
  have e := concatenate_ofFn_apply (t := S56x256) (s₁ := S56x32) 1
    (fun n : Fin 8 => headAt (F := Ideal) c b f0 f1 f2 q k v (w n) (z n) (32 * n.val) (query_slices n) (key_slices n))
    concatenates_S56x32_S56x32_S56x32_S56x32_S56x32_S56x32_S56x32_S56x32_S56x256_d1 rfl 32 rfl (ix2 i (col n d)) n
    (by show (32 * n.val + d.val) / 32 = n.val; omega) (ix2 i d) (by show d.val = (32 * n.val + d.val) % 32; omega)
    (by intro a ha; match a with | ⟨0, _⟩ => rfl | ⟨1, _⟩ => exact absurd rfl ha)
  refine e.trans ((head_apply c b f0 f1 f2 _ _ _ (w n) (z n) i d).trans ?_)
  simp only [headScores_apply, headGate_apply, head_slice]

end Cert.Proof
-- ==== Proof.Step.lean ====
module

public import proofs.«01_k».proof.Proof.Block
public import proofs.«01_k».proof.Proof.Gen.KernelIdeal.Value

/-! The block a grid step leaves is the expression of its loads that Block.lean writes. -/

@[expose] public section

set_option maxRecDepth 65536

noncomputable section
namespace Cert.Proof

open Idealize.ShloMosaic Idealize.SL.Sem Cert.KernelIdeal Cert.KernelIdeal.Gen

variable {F : FTy → Type} [FloatOps F] [Named F]

/-- Leaf block `g` of a four-block window of edge numbers, read through the window. -/
def edgeRow (a : Memref sig .tc .vmem S4x56x64 .f32) (h : a.IsWhole) (x : Vec F S4x56x64 .f32) (g : Fin 4) : Vec F S1x56x64 .f32 :=
  View.readAt (Elt F) a.view (Rect.unit (s := S4x56x64) ![g.val, 0, 0] S1x56x64.size
    (by revert g; decide)).toLoadRect (h.unread x)

/-- One gate weight, read through its window. -/
def weightAt (a : Memref sig .tc .smem S4x8 .f32) (h : a.IsWhole) (x : Vec F S4x8 .f32) (n : Fin 8) (j : Fin 4) : Elt F .f32 :=
  View.readAt (Elt F) a.view (Rect.unit (s := S4x8) ![j.val, n.val] S1x1.size (by revert n j; decide)).toLoadRect (h.unread x)
    (Shape.Idx.first (numel1_S1x1.symm ▸ Nat.one_pos))

/-- One gate constant, read through its window. -/
def offsetAt (a : Memref sig .tc .smem S1x8 .f32) (h : a.IsWhole) (x : Vec F S1x8 .f32) (n : Fin 8) : Elt F .f32 :=
  View.readAt (Elt F) a.view (Rect.unit (s := S1x8) ![0, n.val] S1x1.size (by revert n; decide)).toLoadRect (h.unread x)
    (Shape.Idx.first (numel1_S1x1.symm ▸ Nat.one_pos))

/-- What a grid step leaves in its output block. -/
theorem step_out (c : Dev nD) (i : grid0.Coords) (arg2 : Memref sig .tc .vmem S1x4x50x256 .f32) (harg2 : arg2.IsWhole) (arg3 : Memref sig .tc .vmem S4x56x64 .f32) (harg3 : arg3.IsWhole) (arg4 : Memref sig .tc .vmem S4x56x64 .f32) (harg4 : arg4.IsWhole) (arg5 : Memref sig .tc .vmem S4x56x64 .f32) (harg5 : arg5.IsWhole) (arg6 : Memref sig .tc .vmem S4x56x64 .f32) (harg6 : arg6.IsWhole) (arg7 : Memref sig .tc .vmem S4x56x64 .f32) (harg7 : arg7.IsWhole) (arg8 : Memref sig .tc .vmem S256x768 .f32) (harg8 : arg8.IsWhole) (arg9 : Memref sig .tc .vmem S1x768 .f32) (harg9 : arg9.IsWhole) (arg10 : Memref sig .tc .vmem S256x256 .f32) (harg10 : arg10.IsWhole) (arg11 : Memref sig .tc .vmem S1x256 .f32) (harg11 : arg11.IsWhole) (arg12 : Memref sig .tc .smem S4x8 .f32) (harg12 : arg12.IsWhole) (arg13 : Memref sig .tc .smem S1x8 .f32) (harg13 : arg13.IsWhole) (arg14 : Memref sig .tc .vmem S1x4x50x256 .f32) (harg14 : arg14.IsWhole) (arg15 : Memref sig .tc .vmem S256x256 .f32) (harg15 : arg15.IsWhole) (arg16 : Memref sig .tc .vmem S224x256 .f32) (harg16 : arg16.IsWhole)
    (x0 : Vec F S1x4x50x256 .f32) (x1 : Vec F S4x56x64 .f32) (x2 : Vec F S4x56x64 .f32) (x3 : Vec F S4x56x64 .f32) (x4 : Vec F S4x56x64 .f32) (x5 : Vec F S4x56x64 .f32) (x6 : Vec F S256x768 .f32) (x7 : Vec F S1x768 .f32) (x8 : Vec F S256x256 .f32) (x9 : Vec F S1x256 .f32) (x10 : Vec F S4x8 .f32) (x11 : Vec F S1x8 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 =
      View.canon (outPieces (k0_pay174
        (View.readCov arg16.view (attnPieces
          (k0_pay21 (View.readCov arg15.view (keyPieces (View.readAt (Elt F) arg2.view
              (Rect.unit (s := S1x4x50x256) ![0, 0, 0, 0] S1x4x50x256.size inb_S1x4x50x256_S1x4x50x256_0_0_0_0).toLoadRect (harg2.unread x0)))
              (Rect.unit (s := S256x256) ![0, 0] S256x256.size inb_S256x256_S256x256_0_0).toLoadRect)
            (View.readAt (Elt F) arg8.view (Rect.unit (s := S256x768) ![0, 0] S256x768.size inb_S256x768_S256x768_0_0).toLoadRect (harg8.unread x6))
            (View.readAt (Elt F) arg9.view (Rect.unit (s := S1x768) ![0, 0] S1x768.size inb_S1x768_S1x768_0_0).toLoadRect (harg9.unread x7)))
          (edgeRow arg3 harg3 x1) (edgeRow arg4 harg4 x2) (edgeRow arg5 harg5 x3) (edgeRow arg6 harg6 x4) (edgeRow arg7 harg7 x5)
          (weightAt arg12 harg12 x10) (offsetAt arg13 harg13 x11))
          (Rect.unit (s := S224x256) ![0, 0] S224x256.size inb_S224x256_S224x256_0_0).toLoadRect)
        (View.readAt (Elt F) arg10.view (Rect.unit (s := S256x256) ![0, 0] S256x256.size inb_S256x256_S256x256_0_0).toLoadRect (harg10.unread x8))
        (View.readAt (Elt F) arg11.view (Rect.unit (s := S1x256) ![0, 0] S1x256.size inb_S1x256_S1x256_0_0).toLoadRect (harg11.unread x9)))) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11)]
  unfold kernelRun0_A
  dsimp only
  sl_unfold_words
  rfl

end Cert.Proof
-- ==== Proof.OutRead.lean ====
module

public import proofs.«01_k».proof.Proof.AttnRead
public import Idealize.ShloMosaic.Lib.WholeRead
public import Idealize.ShloMosaic.Lib.MatmulPlain
public import proofs.«01_k».proof.Proof.Step

/-! The output block of one grid step at ideal numbers, entry by entry, from the twelve input blocks. -/

@[expose] public section

noncomputable section
namespace Cert.Proof

open Idealize.ShloMosaic Idealize.ShloMosaic.ValueIdx Cert.KernelIdeal Cert.KernelIdeal.Gen

/-- The place, in the step's projected key rows, of column `c` of part `s` (query, key, value) of row `r` of leaf block `g`. -/
def spot (g : Fin 4) (r : Fin 64) (s : Fin 3) (c : Fin 256) : S256x768.Idx :=
  ix2 ⟨64 * g.val + r.val, by omega⟩ ⟨256 * s.val + c.val, by omega⟩

/-- A query row among the sixty-four rows of its leaf block. -/
abbrev wide (i : Fin 56) : Fin 64 := ⟨i.val, by omega⟩

/-- Which entries of a leaf block's score table count. -/
def Open (m : Vec Ideal S1x56x64 .f32) (i : Fin 56) (j : Fin 64) : Prop :=
  j.val < 51 ∧ ((j.val = 50 ∨ j.val = i.val) ∨ m (ix3 0 i j) ≠ 0)

open Classical in
/-- A leaf block's score of query `i` and key `j` in head `n`. -/
def blockScore (u : FVec Ideal S256x768 .f32) (m f3 : Vec Ideal S1x56x64 .f32) (g : Fin 4) (i : Fin 56) (n : Fin 8) (j : Fin 64) : EReal :=
  if Open m i j then (∑ e : Fin 32, u (spot g (wide i) 0 (col n e)) * u (spot g j 1 (col n e))) * scale
    + (if j.val = 50 ∨ j.val = i.val then 1 else f3 (ix3 0 i j)) else ⊥

open Classical in
/-- A leaf block's gate of query `i` and key `j` in head `n`. -/
def blockGate (m f0 f1 f2 f3 : Vec Ideal S1x56x64 .f32) (w : Fin 8 → Fin 4 → EReal) (z : Fin 8 → EReal) (i : Fin 56) (n : Fin 8)
    (j : Fin 64) : EReal :=
  if Open m i j then
    (if j.val = 50 ∨ j.val = i.val then 0 else f0 (ix3 0 i j)) * w n 0 + (if j.val = 50 ∨ j.val = i.val then 0 else f1 (ix3 0 i j)) * w n 1
      + (if j.val = 50 ∨ j.val = i.val then 0 else f2 (ix3 0 i j)) * w n 2
      + (if j.val = 50 ∨ j.val = i.val then 1 else f3 (ix3 0 i j)) * w n 3 + z n else 0

/-- A leaf block's attention row of query `i`, at column `d` of head `n`. -/
def blockMix (u : FVec Ideal S256x768 .f32) (m f0 f1 f2 f3 : Vec Ideal S1x56x64 .f32) (w : Fin 8 → Fin 4 → EReal) (z : Fin 8 → EReal)
    (g : Fin 4) (i : Fin 56) (n : Fin 8) (d : Fin 32) : EReal :=
  mix (blockScore u m f3 g i n) (blockGate m f0 f1 f2 f3 w z i n) (fun j => u (spot g j 2 (col n d)))

/-- A rectangle of the projected key rows. -/
theorem part_apply {R : ℕ} (u : FVec Ideal S256x768 .f32) (g : Fin 4) (s : Fin 3) (o p : ℕ) (ho : o = 64 * g.val) (hp : p = 256 * s.val)
    (h : S256x768.Slices ![o, p] (⟨2, ![R, 256]⟩ : Shape)) (i : Fin R) (r : Fin 64) (hr : r.val = i.val) (c : Fin 256) :
    extractStridedSlice ⟨2, ![R, 256]⟩ ![o, p] u h (ix2 i c) = u (spot g r s c) :=
  extractStridedSlice_apply _ _ _ _ _ (by
    intro a
    match a with
    | ⟨0, _⟩ => show 64 * g.val + r.val = o + i.val; omega
    | ⟨1, _⟩ => show 256 * s.val + c.val = p + c.val; omega)

open Classical in
/-- An entry of a leaf block's attention rows. -/
theorem attend_apply (u : FVec Ideal S256x768 .f32) (m f0 f1 f2 f3 : Vec Ideal S1x56x64 .f32) (w : Fin 8 → Fin 4 → EReal) (z : Fin 8 → EReal)
    (g : Fin 4) (o : ℕ) (ho : o = 64 * g.val) (hq : S256x768.Slices ![o, 0] S56x256)
    (hk : S256x768.Slices ![o, 256] S64x256) (hv : S256x768.Slices ![o, 512] S64x256) (i : Fin 56) (n : Fin 8) (d : Fin 32) :
    attend (F := Ideal) u m f0 f1 f2 f3 w z o hq hk hv (ix2 i (col n d)) = blockMix u m f0 f1 f2 f3 w z g i n d := by
  unfold attend
  rw [shapeCast_self, heads_apply]
  unfold blockMix
  refine congr (congrArg₂ mix (funext fun j => ?_) (funext fun j => ?_)) (funext fun j => ?_)
  · refine if_congr (allowed_apply m i j) ?_ rfl
    rw [feature_apply, ofBits_one]
    refine congrArg₂ (fun a b : EReal => a + b) (congrArg (· * scale) (Finset.sum_congr rfl fun e _ => ?_)) (if_congr Iff.rfl rfl rfl)
    rw [part_apply (R := 56) u g 0 o 0 ho rfl hq i (wide i) rfl, part_apply (R := 64) u g 1 o 256 ho rfl hk j j rfl]
  · refine if_congr (allowed_apply m i j) ?_ rfl
    rw [feature_apply, feature_apply, feature_apply, feature_apply, ofBits_one, ofBits_zero]
  · exact part_apply (R := 64) u g 2 o 512 ho rfl hv j j rfl (col n d)

/-- The attention rows of the four leaf blocks, fifty-six apiece. -/
def attnTable (u : FVec Ideal S256x768 .f32) (m f0 f1 f2 f3 : Fin 4 → Vec Ideal S1x56x64 .f32) (w : Fin 8 → Fin 4 → EReal)
    (z : Fin 8 → EReal) (y : S224x256.Idx) : EReal :=
  have h0 : (y 0).val < 224 := (y 0).isLt
  have h1 : (y 1).val < 256 := (y 1).isLt
  let g : Fin 4 := ⟨(y 0).val / 56, by omega⟩
  blockMix u (m g) (f0 g) (f1 g) (f2 g) (f3 g) w z g ⟨(y 0).val % 56, by omega⟩ ⟨(y 1).val / 32, by omega⟩ ⟨(y 1).val % 32, by omega⟩

/-- The table of attention rows, by leaf block, row and head. -/
theorem attnTable_at (u : FVec Ideal S256x768 .f32) (m f0 f1 f2 f3 : Fin 4 → Vec Ideal S1x56x64 .f32) (w : Fin 8 → Fin 4 → EReal)
    (z : Fin 8 → EReal) (y : S224x256.Idx) (g : Fin 4) (i : Fin 56) (n : Fin 8) (d : Fin 32) (h0 : (y 0).val = 56 * g.val + i.val)
    (h1 : (y 1).val = 32 * n.val + d.val) :
    attnTable u m f0 f1 f2 f3 w z y = blockMix u (m g) (f0 g) (f1 g) (f2 g) (f3 g) w z g i n d := by
  have e0 : g = ⟨(y 0).val / 56, by omega⟩ := Fin.ext (by show g.val = _ / 56; omega)
  have e1 : i = ⟨(y 0).val % 56, by omega⟩ := Fin.ext (by show i.val = _ % 56; omega)
  have e2 : n = ⟨(y 1).val / 32, by omega⟩ := Fin.ext (by show n.val = _ / 32; omega)
  have e3 : d = ⟨(y 1).val % 32, by omega⟩ := Fin.ext (by show d.val = _ % 32; omega)
  unfold attnTable
  simp only [← e0, ← e1, ← e2, ← e3]

/-- The piece of a leaf block's attention rows agrees with the table. -/
theorem attn_piece (u : FVec Ideal S256x768 .f32) (m f0 f1 f2 f3 : Fin 4 → Vec Ideal S1x56x64 .f32) (w : Fin 8 → Fin 4 → EReal)
    (z : Fin 8 → EReal) (g : Fin 4) (o o' : ℕ) (ho : o = 64 * g.val) (ho' : o' = 56 * g.val) (hq : S256x768.Slices ![o, 0] S56x256)
    (hk : S256x768.Slices ![o, 256] S64x256) (hv : S256x768.Slices ![o, 512] S64x256)
    (inb : ∀ a, (![o', 0] : Fin 2 → ℕ) a + S56x256.size a ≤ S224x256.size a) (y : S56x256.Idx) :
    attend (F := Ideal) u (m g) (f0 g) (f1 g) (f2 g) (f3 g) w z o hq hk hv y
      = attnTable u m f0 f1 f2 f3 w z ((Rect.unit (s := S224x256) ![o', 0] S56x256.size inb).emb y) := by
  have h1 : (y 1).val < 256 := (y 1).isLt
  have ey : y = ix2 (y 0) (col ⟨(y 1).val / 32, by omega⟩ ⟨(y 1).val % 32, by omega⟩) := by
    refine (eq_ix2 y).trans (congrArg _ (Fin.ext ?_))
    show (y 1).val = 32 * ((y 1).val / 32) + (y 1).val % 32
    omega
  conv_lhs => rw [ey]
  refine (attend_apply u _ _ _ _ _ w z g o ho hq hk hv (y 0) _ _).trans ?_
  refine (attnTable_at u m f0 f1 f2 f3 w z _ g (y 0) _ _ ?_ ?_).symm
  · rw [← ho']; exact place (s := S224x256) ![o', 0] S56x256.size inb y 0
  · refine (place (s := S224x256) ![o', 0] S56x256.size inb y 1).trans ?_
    show 0 + (y 1).val = 32 * ((y 1).val / 32) + (y 1).val % 32
    omega

/-- The stored attention rows are the table of attention rows. -/
theorem canon_attnPieces (u : FVec Ideal S256x768 .f32) (m f0 f1 f2 f3 : Fin 4 → Vec Ideal S1x56x64 .f32) (w : Fin 8 → Fin 4 → EReal)
    (z : Fin 8 → EReal) (y : S224x256.Idx) :
    View.canon (attnPieces (F := Ideal) u m f0 f1 f2 f3 w z) y = attnTable u m f0 f1 f2 f3 w z y := by
  refine View.canon_apply_of_pieces (attnTable u m f0 f1 f2 f3 w z) _ ?_ y
    (View.cover_of_tiledBy (attnPieces (F := Ideal) u m f0 f1 f2 f3 w z) S56x256.size (by sl_kernel_rfl) y)
  intro p hp
  simp only [attnPieces, List.mem_cons, List.not_mem_nil, or_false] at hp
  rcases hp with rfl | rfl | rfl | rfl
  · exact attn_piece u m f0 f1 f2 f3 w z 3 192 168 rfl rfl slices_S256x768_o192_0_S56x256 slices_S256x768_o192_256_S64x256 slices_S256x768_o192_512_S64x256 inb_S224x256_S56x256_168_0
  · exact attn_piece u m f0 f1 f2 f3 w z 2 128 112 rfl rfl slices_S256x768_o128_0_S56x256 slices_S256x768_o128_256_S64x256 slices_S256x768_o128_512_S64x256 inb_S224x256_S56x256_112_0
  · exact attn_piece u m f0 f1 f2 f3 w z 1 64 56 rfl rfl slices_S256x768_o64_0_S56x256 slices_S256x768_o64_256_S64x256 slices_S256x768_o64_512_S64x256 inb_S224x256_S56x256_56_0
  · exact attn_piece u m f0 f1 f2 f3 w z 0 0 0 rfl rfl slices_S256x768_o0_0_S56x256 slices_S256x768_o0_256_S64x256 slices_S256x768_o0_512_S64x256 inb_S224x256_S56x256_0_0

/-- An entry of the projected key rows. -/
theorem pay21_apply (k : FVec Ideal S256x256 .f32) (w : Vec Ideal S256x768 .f32) (b : Vec Ideal S1x768 .f32) (r : Fin 256) (c : Fin 768) :
    k0_pay21 (F := Ideal) k w b (ix2 r c) = (∑ e : Fin 256, k (ix2 r e) * w (ix2 e c)) + b (ix2 0 c) := by
  unfold k0_pay21
  have e := Ideal.matmul_plain_apply (M := 256) (K := 256) (N := 768) (φ₁ := .f32) (φ₂ := .f32) none k w (constant S256x768 .f32 0x00000000#32) r c
  refine congrArg₂ (fun a b : EReal => a + b) (e.trans ?_) ?_
  · refine (congrArg (· + _) ofBits_zero).trans (zero_add _)
  · rw [shapeCast_self]
    exact broadcastTo_1b_ab_apply _ _ _ _

/-- An entry of the projected attention rows. -/
theorem pay174_apply (k : FVec Ideal S224x256 .f32) (w : Vec Ideal S256x256 .f32) (b : Vec Ideal S1x256 .f32) (r : Fin 224) (c : Fin 256) :
    k0_pay174 (F := Ideal) k w b (ix2 r c) = (∑ e : Fin 256, k (ix2 r e) * w (ix2 e c)) + b (ix2 0 c) := by
  unfold k0_pay174
  have e := Ideal.matmul_plain_apply (M := 224) (K := 256) (N := 256) (φ₁ := .f32) (φ₂ := .f32) none k w (constant S224x256 .f32 0x00000000#32) r c
  refine congrArg₂ (fun a b : EReal => a + b) (e.trans ?_) ?_
  · refine (congrArg (· + _) ofBits_zero).trans (zero_add _)
  · rw [shapeCast_self]
    exact broadcastTo_1b_ab_apply _ _ _ _

/-- An entry of a leaf block's output rows. -/
theorem outRows_apply (p : FVec Ideal S224x256 .f32) (g : Fin 4) (o : ℕ) (ho : o = 56 * g.val) (h : S224x256.Slices ![o, 0] S50x256)
    (a b : Fin 1) (q : Fin 50) (c : Fin 256) : outRows p o h (ix4 a b q c) = p (ix2 ⟨56 * g.val + q.val, by omega⟩ c) := by
  unfold outRows
  rw [shapeCast_apply _ _ _ (ix2 q c) (by
    rw [Shape.rowMajor_val_two, Shape.rowMajor_val_four]
    show q.val * 256 + c.val = ((a.val * 1 + b.val) * 50 + q.val) * 256 + c.val
    omega)]
  exact extractStridedSlice_apply _ _ _ _ _ (by
    intro a
    match a with
    | ⟨0, _⟩ => show 56 * g.val + q.val = o + q.val; omega
    | ⟨1, _⟩ => exact (Nat.zero_add _).symm)

/-- The output block of the step as a table over the projected attention rows. -/
def outTable (p : FVec Ideal S224x256 .f32) (y : S1x4x50x256.Idx) : EReal :=
  p (ix2 ⟨56 * (y 1).val + (y 2).val, by have h1 : (y 1).val < 4 := (y 1).isLt; have h2 : (y 2).val < 50 := (y 2).isLt; omega⟩ (y 3))

/-- The piece of a leaf block's output rows agrees with the table. -/
theorem out_piece (p : FVec Ideal S224x256 .f32) (g : Fin 4) (o o' : ℕ) (ho : o = 56 * g.val) (ho' : o' = g.val) (h : S224x256.Slices ![o, 0] S50x256)
    (inb : ∀ a, (![0, o', 0, 0] : Fin 4 → ℕ) a + S1x1x50x256.size a ≤ S1x4x50x256.size a) (y : S1x1x50x256.Idx) :
    outRows p o h y = outTable p ((Rect.unit (s := S1x4x50x256) ![0, o', 0, 0] S1x1x50x256.size inb).emb y) := by
  conv_lhs => rw [eq_ix4 y]
  refine (outRows_apply p g o ho h (y 0) (y 1) (y 2) (y 3)).trans ?_
  have h1 : (y 1).val < 1 := (y 1).isLt
  have p1 := place (s := S1x4x50x256) ![0, o', 0, 0] S1x1x50x256.size inb y 1
  have p2 := place (s := S1x4x50x256) ![0, o', 0, 0] S1x1x50x256.size inb y 2
  have p3 := place (s := S1x4x50x256) ![0, o', 0, 0] S1x1x50x256.size inb y 3
  change _ = o' + (y 1).val at p1
  change _ = 0 + (y 2).val at p2
  change _ = 0 + (y 3).val at p3
  unfold outTable
  refine congrArg p (congrArg₂ ix2 (Fin.ext ?_) (Fin.ext ?_))
  · show 56 * g.val + (y 2).val = 56 * _ + _
    rw [p1, p2]; omega
  · show (y 3).val = _
    rw [p3, Nat.zero_add]

/-- The stored output block is the table of output rows. -/
theorem canon_outPieces (p : FVec Ideal S224x256 .f32) (y : S1x4x50x256.Idx) :
    View.canon (outPieces (F := Ideal) p) y = outTable p y := by
  refine View.canon_apply_of_pieces (outTable p) _ ?_ y
    (View.cover_of_tiledBy (outPieces (F := Ideal) p) S1x1x50x256.size (by sl_kernel_rfl) y)
  intro q hq
  simp only [outPieces, List.mem_cons, List.not_mem_nil, or_false] at hq
  rcases hq with rfl | rfl | rfl | rfl
  · exact out_piece p 3 168 3 rfl rfl slices_S224x256_o168_0_S50x256 inb_S1x4x50x256_S1x1x50x256_0_3_0_0
  · exact out_piece p 2 112 2 rfl rfl slices_S224x256_o112_0_S50x256 inb_S1x4x50x256_S1x1x50x256_0_2_0_0
  · exact out_piece p 1 56 1 rfl rfl slices_S224x256_o56_0_S50x256 inb_S1x4x50x256_S1x1x50x256_0_1_0_0
  · exact out_piece p 0 0 0 rfl rfl slices_S224x256_o0_0_S50x256 inb_S1x4x50x256_S1x1x50x256_0_0_0_0

/-- One leaf block's page of a table of four. -/
def page (x : Vec Ideal S4x56x64 .f32) (g : Fin 4) : Vec Ideal S1x56x64 .f32 := fun y => x (ix3 g (y 1) (y 2))

/-- The page read through the window. -/
theorem edgeRow_eq (a : Memref sig .tc .vmem S4x56x64 .f32) (h : a.IsWhole) (x : Vec Ideal S4x56x64 .f32) (g : Fin 4) :
    edgeRow a h x g = page x g := by
  funext y
  unfold edgeRow
  refine (Memref.IsWhole.readAt_unread h x (Rect.unit (s := S4x56x64) ![g.val, 0, 0] S1x56x64.size (by revert g; decide)).toLoadRect y).trans ?_
  refine congrArg x (funext fun a => Fin.ext ?_)
  have h0 : (y 0).val < 1 := (y 0).isLt
  match a with
  | ⟨0, _⟩ => show g.val + 1 * (y 0).val = g.val; omega
  | ⟨1, _⟩ => show 0 + 1 * (y 1).val = (y 1).val; omega
  | ⟨2, _⟩ => show 0 + 1 * (y 2).val = (y 2).val; omega

/-- The gate weight read through the window. -/
theorem weightAt_eq (a : Memref sig .tc .smem S4x8 .f32) (h : a.IsWhole) (x : Vec Ideal S4x8 .f32) (n : Fin 8) (j : Fin 4) :
    weightAt a h x n j = x (ix2 j n) := by
  unfold weightAt
  refine (Memref.IsWhole.readAt_unread h x _ _).trans ?_
  refine congrArg x (funext fun a => Fin.ext ?_)
  match a with
  | ⟨0, _⟩ => rfl
  | ⟨1, _⟩ => rfl

/-- The gate constant read through the window. -/
theorem offsetAt_eq (a : Memref sig .tc .smem S1x8 .f32) (h : a.IsWhole) (x : Vec Ideal S1x8 .f32) (n : Fin 8) :
    offsetAt a h x n = x (ix2 0 n) := by
  unfold offsetAt
  refine (Memref.IsWhole.readAt_unread h x _ _).trans ?_
  refine congrArg x (funext fun a => Fin.ext ?_)
  match a with
  | ⟨0, _⟩ => rfl
  | ⟨1, _⟩ => rfl

/-- The projected key rows of the step. -/
def stepRows (x0 : Vec Ideal S1x4x50x256 .f32) (x6 : Vec Ideal S256x768 .f32) (x7 : Vec Ideal S1x768 .f32) : FVec Ideal S256x768 .f32 :=
  k0_pay21 (F := Ideal) (keyTable x0) x6 x7

/-- The offset of a whole window of two axes. -/
theorem zero_two : (![0, 0] : Fin 2 → ℕ) = fun _ => 0 := by
  funext a; match a with | ⟨0, _⟩ => rfl | ⟨1, _⟩ => rfl

/-- The offset of a whole window of four axes. -/
theorem zero_four : (![0, 0, 0, 0] : Fin 4 → ℕ) = fun _ => 0 := by
  funext a; match a with | ⟨0, _⟩ => rfl | ⟨1, _⟩ => rfl | ⟨2, _⟩ => rfl | ⟨3, _⟩ => rfl

/-- A window read whole. -/
theorem whole_read {κ : Kind} {sp : Space} {S : Shape} {e : EltTy} (a : Memref sig κ sp S e) (h : a.IsWhole) (x : Vec Ideal S e)
    {off : Fin S.rank → ℕ} (ho : off = fun _ => 0) (inb : ∀ a, off a + S.size a ≤ S.size a) :
    View.readAt (Elt Ideal) a.view (Rect.unit off S.size inb).toLoadRect (h.unread x) = x := by
  rw [View.readAt_eq_ld, h.read_unread]
  exact View.ld_unit_zero ho inb x

/-- Scratch contents read whole. -/
theorem whole_canon {κ : Kind} {sp : Space} {S : Shape} {e : EltTy} (v : View sig κ sp S e) (L : List (View.Piece (Elt Ideal) S e))
    {off : Fin S.rank → ℕ} (ho : off = fun _ => 0) (inb : ∀ a, off a + S.size a ≤ S.size a) :
    View.readCov v L (Rect.unit off S.size inb).toLoadRect = View.canon L := by
  rw [View.readCov_eq_canon']
  exact View.ld_unit_zero ho inb (View.canon L)

/-- The output block of the step. -/
def stepOut (x0 : Vec Ideal S1x4x50x256 .f32) (x1 x2 x3 x4 x5 : Vec Ideal S4x56x64 .f32) (x6 : Vec Ideal S256x768 .f32) (x7 : Vec Ideal S1x768 .f32) (x8 : Vec Ideal S256x256 .f32) (x9 : Vec Ideal S1x256 .f32) (x10 : Vec Ideal S4x8 .f32) (x11 : Vec Ideal S1x8 .f32) : Vec Ideal S1x4x50x256 .f32 :=
  outTable (k0_pay174 (F := Ideal) (attnTable (stepRows x0 x6 x7) (page x1) (page x2) (page x3) (page x4) (page x5)
    (fun n j => x10 (ix2 j n)) (fun n => x11 (ix2 0 n))) x8 x9)

/-- What a grid step leaves in its output block is that table. -/
theorem step_eq (c : Dev nD) (i : grid0.Coords) (arg2 : Memref sig .tc .vmem S1x4x50x256 .f32) (harg2 : arg2.IsWhole) (arg3 : Memref sig .tc .vmem S4x56x64 .f32) (harg3 : arg3.IsWhole) (arg4 : Memref sig .tc .vmem S4x56x64 .f32) (harg4 : arg4.IsWhole) (arg5 : Memref sig .tc .vmem S4x56x64 .f32) (harg5 : arg5.IsWhole) (arg6 : Memref sig .tc .vmem S4x56x64 .f32) (harg6 : arg6.IsWhole) (arg7 : Memref sig .tc .vmem S4x56x64 .f32) (harg7 : arg7.IsWhole) (arg8 : Memref sig .tc .vmem S256x768 .f32) (harg8 : arg8.IsWhole) (arg9 : Memref sig .tc .vmem S1x768 .f32) (harg9 : arg9.IsWhole) (arg10 : Memref sig .tc .vmem S256x256 .f32) (harg10 : arg10.IsWhole) (arg11 : Memref sig .tc .vmem S1x256 .f32) (harg11 : arg11.IsWhole) (arg12 : Memref sig .tc .smem S4x8 .f32) (harg12 : arg12.IsWhole) (arg13 : Memref sig .tc .smem S1x8 .f32) (harg13 : arg13.IsWhole) (arg14 : Memref sig .tc .vmem S1x4x50x256 .f32) (harg14 : arg14.IsWhole) (arg15 : Memref sig .tc .vmem S256x256 .f32) (harg15 : arg15.IsWhole) (arg16 : Memref sig .tc .vmem S224x256 .f32) (harg16 : arg16.IsWhole) (x0 : Vec Ideal S1x4x50x256 .f32) (x1 x2 x3 x4 x5 : Vec Ideal S4x56x64 .f32) (x6 : Vec Ideal S256x768 .f32) (x7 : Vec Ideal S1x768 .f32) (x8 : Vec Ideal S256x256 .f32) (x9 : Vec Ideal S1x256 .f32) (x10 : Vec Ideal S4x8 .f32) (x11 : Vec Ideal S1x8 .f32) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 = stepOut x0 x1 x2 x3 x4 x5 x6 x7 x8 x9 x10 x11 := by
  rw [step_out]
  rw [whole_canon arg16.view _ zero_two, whole_canon arg15.view _ zero_two, whole_read arg2 harg2 x0 zero_four, whole_read arg8 harg8 x6 zero_two,
    whole_read arg9 harg9 x7 zero_two, whole_read arg10 harg10 x8 zero_two, whole_read arg11 harg11 x9 zero_two]
  rw [show edgeRow arg3 harg3 x1 = page x1 from funext (edgeRow_eq arg3 harg3 x1), show edgeRow arg4 harg4 x2 = page x2 from funext (edgeRow_eq arg4 harg4 x2),
    show edgeRow arg5 harg5 x3 = page x3 from funext (edgeRow_eq arg5 harg5 x3), show edgeRow arg6 harg6 x4 = page x4 from funext (edgeRow_eq arg6 harg6 x4),
    show edgeRow arg7 harg7 x5 = page x5 from funext (edgeRow_eq arg7 harg7 x5),
    show weightAt arg12 harg12 x10 = fun n j => x10 (ix2 j n) from funext fun n => funext fun j => weightAt_eq arg12 harg12 x10 n j,
    show offsetAt arg13 harg13 x11 = fun n => x11 (ix2 0 n) from funext fun n => offsetAt_eq arg13 harg13 x11 n]
  rw [show View.canon (keyPieces x0) = keyTable x0 from funext (canon_keyPieces x0)]
  refine (funext (canon_outPieces _)).trans ?_
  rw [show View.canon (attnPieces _ _ _ _ _ _ _ _) = attnTable _ _ _ _ _ _ _ _ from funext (canon_attnPieces _ _ _ _ _ _ _ _)]
  rfl

end Cert.Proof
-- ==== Proof.Spec.lean ====
module

public import proofs.«01_k».proof.Proof.Mix
public import proofs.«01_k».proof.Proof.HeadRead

/-! The mathematics of one leaf block, at extended reals: what both programs compute. -/

@[expose] public section

noncomputable section
namespace Cert.Proof

open Idealize.ShloMosaic

/-- What one leaf block's attention is computed from. -/
structure Leaf where
  /-- The fifty nodes' rows. -/
  nodes : Fin 50 → Fin 256 → EReal
  /-- The weights of the three projections. -/
  wq : Fin 256 → Fin 768 → EReal
  /-- Their offsets. -/
  bq : Fin 768 → EReal
  /-- The gate's weights. -/
  wg : Fin 4 → Fin 8 → EReal
  /-- The gate's offsets. -/
  bg : Fin 8 → EReal
  /-- Which places of the block an edge joins. -/
  linked : ℕ → ℕ → Prop
  /-- The four features of the edges that join two places. -/
  feat : Fin 4 → ℕ → ℕ → EReal

namespace Leaf

variable (L : Leaf)

/-- A key row before projection: the nodes, then their mean. -/
def key (r : ℕ) (c : Fin 256) : EReal :=
  if h : r < 50 then L.nodes ⟨r, h⟩ c else if r = 50 then (∑ p : Fin 50, L.nodes p c) * ((1 / 50 : ℝ) : EReal) else 0

/-- A projected key row: queries, keys and values side by side. -/
def proj (r : ℕ) (c : Fin 768) : EReal := (∑ e : Fin 256, L.key r e * L.wq e c) + L.bq c

/-- The column of part `s` (query, key, value) of the projection for column `d` of head `n`. -/
def part (s : Fin 3) (n : Fin 8) (d : Fin 32) : Fin 768 := ⟨256 * s.val + (32 * n.val + d.val), by omega⟩

/-- Query `q` sees key `k`: the mean, itself, or a node an edge joins it to. -/
def sees (q k : ℕ) : Prop := (k = 50 ∨ k = q) ∨ L.linked q k

/-- The features of query `q` and key `k`: fixed for the mean and for itself, else the edge's. -/
def bias (j : Fin 4) (q k : ℕ) : EReal := if k = 50 ∨ k = q then (if j = 3 then 1 else 0) else L.feat j q k

open Classical in
/-- The score of query `q` and key `k` in head `n`. -/
def score (q : ℕ) (n : Fin 8) (k : ℕ) : EReal :=
  if L.sees q k then (∑ d : Fin 32, L.proj q (part 0 n d) * L.proj k (part 1 n d)) * scale + L.bias 3 q k else ⊥

open Classical in
/-- The gate of query `q` and key `k` in head `n`. -/
def gate (q : ℕ) (n : Fin 8) (k : ℕ) : EReal :=
  if L.sees q k then L.bias 0 q k * L.wg 0 n + L.bias 1 q k * L.wg 1 n + L.bias 2 q k * L.wg 2 n + L.bias 3 q k * L.wg 3 n + L.bg n else 0

/-- The attention of query `q` at column `d` of head `n`. -/
def head (q : ℕ) (n : Fin 8) (d : Fin 32) : EReal :=
  mix (fun k : Fin 51 => L.score q n k.val) (fun k => L.gate q n k.val) (fun k => L.proj k.val (part 2 n d))

/-- The output of query `q` at column `c`. -/
def out (wp : Fin 256 → Fin 256 → EReal) (bp : Fin 256 → EReal) (q : ℕ) (c : Fin 256) : EReal :=
  (∑ e : Fin 256, L.head q ⟨e.val / 32, by omega⟩ ⟨e.val % 32, by omega⟩ * wp e c) + bp c

end Leaf

/-- A number that is neither infinity. -/
def IsReal (x : EReal) : Prop := ∃ r : ℝ, x = r

/-- Sums of reals are real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- Products of reals are real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- Zero is real. -/
theorem isReal_zero : IsReal 0 := ⟨0, rfl⟩

/-- One is real. -/
theorem isReal_one : IsReal 1 := ⟨1, rfl⟩

/-- Finite sums of reals are real. -/
theorem isReal_sum {ι : Type} (s : Finset ι) (f : ι → EReal) (h : ∀ i ∈ s, IsReal (f i)) : IsReal (∑ i ∈ s, f i) := by
  classical
  induction s using Finset.induction_on with
  | empty => exact isReal_zero
  | insert i s hi ih =>
    rw [Finset.sum_insert hi]
    exact (h i (Finset.mem_insert_self i s)).add (ih fun j hj => h j (Finset.mem_insert_of_mem hj))

/-- A real is not the upper infinity. -/
theorem IsReal.ne_top {x : EReal} (hx : IsReal x) : x ≠ ⊤ := by
  obtain ⟨a, rfl⟩ := hx; exact EReal.coe_ne_top a

/-- A real is not the lower infinity. -/
theorem IsReal.ne_bot {x : EReal} (hx : IsReal x) : x ≠ ⊥ := by
  obtain ⟨a, rfl⟩ := hx; exact EReal.coe_ne_bot a

/-- The score factor is a real number. -/
theorem isReal_scale : IsReal scale := by
  refine ⟨(11863283 / 67108864 : ℝ), ?_⟩
  unfold scale
  simp [Ideal.ofBits, Ideal.ieee, -EReal.coe_mul]
  norm_num

namespace Leaf

variable (L : Leaf)

/-- What the scores are computed from is real, and no edge's value is the upper infinity. -/
structure Tame : Prop where
  nodes : ∀ p c, IsReal (L.nodes p c)
  wq : ∀ e (c : Fin 768), c.val < 512 → IsReal (L.wq e c)
  bq : ∀ c : Fin 768, c.val < 512 → IsReal (L.bq c)
  feat : ∀ q k, L.feat 3 q k ≠ ⊤

variable {L}

/-- The key rows are real. -/
theorem Tame.key (h : L.Tame) (r : ℕ) (c : Fin 256) : IsReal (L.key r c) := by
  unfold Leaf.key
  split
  · exact h.nodes _ _
  · split
    · exact (isReal_sum _ _ fun p _ => h.nodes p c).mul ⟨_, rfl⟩
    · exact isReal_zero

/-- Queries and keys are real. -/
theorem Tame.proj (h : L.Tame) (r : ℕ) (c : Fin 768) (hc : c.val < 512) : IsReal (L.proj r c) :=
  (isReal_sum _ _ fun e _ => (h.key r e).mul (h.wq e c hc)).add (h.bq c hc)

/-- A score without its bias is real. -/
theorem Tame.dot (h : L.Tame) (q k : ℕ) (n : Fin 8) :
    IsReal ((∑ d : Fin 32, L.proj q (part 0 n d) * L.proj k (part 1 n d)) * scale) :=
  (isReal_sum _ _ fun d _ => (h.proj q _ (by show 256 * 0 + (32 * n.val + d.val) < 512; omega)).mul
    (h.proj k _ (by show 256 * 1 + (32 * n.val + d.val) < 512; omega))).mul isReal_scale

/-- No bias is the upper infinity. -/
theorem Tame.bias (h : L.Tame) (q k : ℕ) : L.bias 3 q k ≠ ⊤ := by
  unfold Leaf.bias
  split
  · rw [if_pos rfl]; exact isReal_one.ne_top
  · exact h.feat q k

/-- The softmax of a query's scores divides by something other than zero. -/
theorem Tame.mass (h : L.Tame) (q : ℕ) (n : Fin 8) : mass (fun k : Fin 51 => L.score q n k.val) ≠ 0 := by
  classical
  refine mass_ne_zero _ (fun k => ?_) ⟨50, ?_⟩
  · show L.score q n k.val ≠ ⊤
    unfold Leaf.score
    split
    · exact EReal.add_ne_top (h.dot q k.val n).ne_top (h.bias q k.val)
    · exact bot_ne_top
  · show L.score q n 50 ≠ ⊥
    unfold Leaf.score Leaf.bias
    rw [if_pos (show L.sees q 50 from Or.inl (Or.inl rfl)), if_pos (Or.inl rfl), if_pos rfl]
    exact ((h.dot q 50 n).add isReal_one).ne_bot

end Leaf

end Cert.Proof
-- ==== Proof.Fold.lean ====
module

public import proofs.«01_k».proof.Proof.OutRead
public import proofs.«01_k».proof.Proof.Spec

/-! A grid step's output block is the attention of its four leaf blocks. -/

@[expose] public section

noncomputable section
namespace Cert.Proof

open Idealize.ShloMosaic Idealize.ShloMosaic.ValueIdx Cert.KernelIdeal Cert.KernelIdeal.Gen

variable (L : Leaf) (g : Fin 4)

/-- The projected key rows of the step are those of the leaf block. -/
theorem rows_eq (x0 : Vec Ideal S1x4x50x256 .f32) (x6 : Vec Ideal S256x768 .f32) (x7 : Vec Ideal S1x768 .f32)
    (hn : ∀ p c, x0 (ix4 0 g p c) = L.nodes p c) (hw : ∀ e c, x6 (ix2 e c) = L.wq e c) (hb : ∀ c, x7 (ix2 0 c) = L.bq c)
    (r : Fin 64) (s : Fin 3) (n : Fin 8) (d : Fin 32) : stepRows x0 x6 x7 (spot g r s (col n d)) = L.proj r.val (Leaf.part s n d) := by
  unfold stepRows spot
  refine (pay21_apply _ _ _ _ _).trans ?_
  unfold Leaf.proj
  refine congrArg₂ (fun a b : EReal => a + b) (Finset.sum_congr rfl fun e _ => congrArg₂ (fun a b : EReal => a * b) ?_ (hw e _)) (hb _)
  refine (keyTable_at x0 _ g r.val r.isLt e rfl rfl).trans ?_
  unfold keyRow Leaf.key
  simp only [hn]

/-- The kernel's rows past the mean, masked and zero, leave the attention of the fifty-one keys. -/
theorem mix_fold (s t v : Fin 64 → EReal) (s' t' v' : ℕ → EReal) (hs : ∀ j : Fin 64, s j = if j.val < 51 then s' j.val else ⊥)
    (ht : ∀ j : Fin 64, t j = if j.val < 51 then t' j.val else 0) (hv : ∀ j : Fin 64, v j = v' j.val)
    (hm : mass (fun k : Fin 51 => s' k.val) ≠ 0) :
    mix s t v = mix (fun k : Fin 51 => s' k.val) (fun k => t' k.val) (fun k => v' k.val) := by
  have es : (s ∘ Fin.castAdd 13 : Fin 51 → EReal) = fun k => s' k.val := funext fun k => (hs (Fin.castAdd 13 k)).trans (if_pos k.isLt)
  have et : (t ∘ Fin.castAdd 13 : Fin 51 → EReal) = fun k => t' k.val := funext fun k => (ht (Fin.castAdd 13 k)).trans (if_pos k.isLt)
  have ev : (v ∘ Fin.castAdd 13 : Fin 51 → EReal) = fun k => v' k.val := funext fun k => hv (Fin.castAdd 13 k)
  rw [← es] at hm
  have h : mix s t v = mix (s ∘ Fin.castAdd 13 : Fin 51 → EReal) (t ∘ Fin.castAdd 13) (v ∘ Fin.castAdd 13) := mix_append (n := 51) (m := 13) s t v (fun i => (hs (Fin.natAdd 51 i)).trans (if_neg (by show ¬ 51 + i.val < 51; omega)))
    (fun i => (ht (Fin.natAdd 51 i)).trans (if_neg (by show ¬ 51 + i.val < 51; omega))) hm
  rw [es, et, ev] at h
  exact h

open Classical in
/-- A choice by two facts together is the choice by the second inside the choice by the first. -/
theorem guard_split {P A B : Prop} (h : P ↔ A ∧ B) [Decidable A] (x y : EReal) :
    (if P then x else y) = if A then (if B then x else y) else y := by
  by_cases a : A
  · by_cases b : B
    · rw [if_pos (h.mpr ⟨a, b⟩), if_pos a, if_pos b]
    · rw [if_neg (fun p => b (h.mp p).2), if_pos a, if_neg b]
  · rw [if_neg (fun p => a (h.mp p).1), if_neg a]

/-- An attention row of the step is the leaf block's. -/
theorem blockMix_eq (u : FVec Ideal S256x768 .f32) (m f0 f1 f2 f3 : Vec Ideal S1x56x64 .f32) (w : Fin 8 → Fin 4 → EReal) (z : Fin 8 → EReal)
    (hu : ∀ (r : Fin 64) (s : Fin 3) (n : Fin 8) (d : Fin 32), u (spot g r s (col n d)) = L.proj r.val (Leaf.part s n d))
    (hm : ∀ (i : Fin 56) (j : Fin 64), m (ix3 0 i j) ≠ 0 ↔ L.linked i.val j.val)
    (h0 : ∀ (i : Fin 56) (j : Fin 64), f0 (ix3 0 i j) = L.feat 0 i.val j.val) (h1 : ∀ (i : Fin 56) (j : Fin 64), f1 (ix3 0 i j) = L.feat 1 i.val j.val)
    (h2 : ∀ (i : Fin 56) (j : Fin 64), f2 (ix3 0 i j) = L.feat 2 i.val j.val) (h3 : ∀ (i : Fin 56) (j : Fin 64), f3 (ix3 0 i j) = L.feat 3 i.val j.val)
    (hw : ∀ n j, w n j = L.wg j n) (hz : ∀ n, z n = L.bg n) (i : Fin 56) (n : Fin 8) (d : Fin 32)
    (hs : mass (fun k : Fin 51 => L.score i.val n k.val) ≠ 0) :
    blockMix u m f0 f1 f2 f3 w z g i n d = L.head i.val n d := by
  have ho : ∀ j : Fin 64, Open m i j ↔ (j.val < 51 ∧ L.sees i.val j.val) := fun j => and_congr Iff.rfl (or_congr Iff.rfl (hm i j))
  unfold blockMix Leaf.head
  refine mix_fold _ _ _ (fun k => L.score i.val n k) (fun k => L.gate i.val n k) (fun k => L.proj k (Leaf.part 2 n d)) (fun j => ?_) (fun j => ?_) (fun j => hu j 2 n d) hs
  · unfold blockScore Leaf.score Leaf.bias
    simp only [hu, h3]
    exact guard_split (ho j) _ _
  · unfold blockGate Leaf.gate Leaf.bias
    simp only [h0, h1, h2, h3, hw, hz]
    exact guard_split (ho j) _ _

/-- An entry of the step's output block is the leaf block's output. -/
theorem stepOut_eq (x0 : Vec Ideal S1x4x50x256 .f32) (x1 x2 x3 x4 x5 : Vec Ideal S4x56x64 .f32) (x6 : Vec Ideal S256x768 .f32) (x7 : Vec Ideal S1x768 .f32)
    (x8 : Vec Ideal S256x256 .f32) (x9 : Vec Ideal S1x256 .f32) (x10 : Vec Ideal S4x8 .f32) (x11 : Vec Ideal S1x8 .f32)
    (hn : ∀ p c, x0 (ix4 0 g p c) = L.nodes p c) (hq : ∀ e c, x6 (ix2 e c) = L.wq e c) (hb : ∀ c, x7 (ix2 0 c) = L.bq c)
    (hm : ∀ (i : Fin 56) (j : Fin 64), x1 (ix3 g i j) ≠ 0 ↔ L.linked i.val j.val)
    (h0 : ∀ (i : Fin 56) (j : Fin 64), x2 (ix3 g i j) = L.feat 0 i.val j.val) (h1 : ∀ (i : Fin 56) (j : Fin 64), x3 (ix3 g i j) = L.feat 1 i.val j.val)
    (h2 : ∀ (i : Fin 56) (j : Fin 64), x4 (ix3 g i j) = L.feat 2 i.val j.val) (h3 : ∀ (i : Fin 56) (j : Fin 64), x5 (ix3 g i j) = L.feat 3 i.val j.val)
    (hw : ∀ j n, x10 (ix2 j n) = L.wg j n) (hz : ∀ n, x11 (ix2 0 n) = L.bg n)
    (hs : ∀ (i : ℕ) (n : Fin 8), mass (fun k : Fin 51 => L.score i n k.val) ≠ 0) (q : Fin 50) (c : Fin 256) :
    stepOut x0 x1 x2 x3 x4 x5 x6 x7 x8 x9 x10 x11 (ix4 0 g q c) = L.out (fun e c => x8 (ix2 e c)) (fun c => x9 (ix2 0 c)) q.val c := by
  unfold stepOut outTable
  refine (pay174_apply _ _ _ _ _).trans ?_
  unfold Leaf.out
  refine congrArg₂ (fun a b : EReal => a + b) (Finset.sum_congr rfl fun e _ => congrArg₂ (fun a b : EReal => a * b) ?_ rfl) rfl
  refine (attnTable_at _ _ _ _ _ _ _ _ _ g ⟨q.val, by omega⟩ ⟨e.val / 32, by omega⟩ ⟨e.val % 32, by omega⟩ rfl
    (by show e.val = 32 * (e.val / 32) + e.val % 32; omega)).trans ?_
  exact blockMix_eq L g _ _ _ _ _ _ _ _ (rows_eq L g x0 x6 x7 hn hq hb) hm h0 h1 h2 h3 (fun n j => hw j n) hz _ _ _ (hs _ _)

end Cert.Proof
-- ==== Proof.Words.lean ====
module

public import Idealize.ShloMosaic.Lib.WordCmp
public import Idealize.ShloMosaic.Lib.Pipeline.Value
public import Idealize.ShloMosaic.Lib.ValueIdx
public import Idealize.ShloMosaic.Lib.IdealHost
public import Idealize.ShloMosaic.Lib.Routing.OpsSet
public import Idealize.ShloMosaic.Lib.Routing.OpsPair

/-! An edge's index words: the leaf block of its two ends, and their places in the block. -/

@[expose] public section

namespace Cert.Proof

open Idealize.ShloMosaic Idealize.ShloMosaic.ValueIdx Idealize.ShloMosaic.Routing

/-- The sign of a word. -/
def signW (w : BitVec 32) : BitVec 32 := if w = 0 then 0 else if w.msb then -1 else 1

/-- A node's leaf block: its number divided by fifty, rounded down. -/
def divW (w : BitVec 32) : BitVec 32 :=
  Scalar.select (IntOp.andi (IntOp.cmpi .ne (signW w) (signW 50#32)) (IntOp.cmpi .ne (IntOp.remsi .host w 50#32) 0#32))
    (IntOp.subi (IntOp.divsi .host w 50#32) 1#32) (IntOp.divsi .host w 50#32)

/-- The divisor of the remainder: fifty, or one were it zero. -/
def fiftyW : BitVec 32 := Scalar.select (IntOp.cmpi .eq 50#32 0#32) 1#32 50#32

/-- A node's place in its leaf block: its number's remainder by fifty, never negative. -/
def modW (w : BitVec 32) : BitVec 32 :=
  Scalar.select (IntOp.andi (IntOp.cmpi .ne (IntOp.cmpi .slt (IntOp.remsi .host w fiftyW) 0#32) (IntOp.cmpi .slt fiftyW 0#32))
      (IntOp.cmpi .ne (IntOp.remsi .host w fiftyW) 0#32))
    (IntOp.addi (IntOp.remsi .host w fiftyW) fiftyW) (IntOp.remsi .host w fiftyW)

/-- An index counted from the end when negative. -/
def wrapW (n w : BitVec 32) : BitVec 32 := Scalar.select (IntOp.cmpi .slt w 0#32) (IntOp.addi w n) w

/-- The leaf block an edge lies in, or two hundred: the kernel's word. -/
def pairW (r c : BitVec 32) : BitVec 32 := Scalar.select (IntOp.cmpi .eq (divW r) (divW c)) (divW r) 200#32

/-- The leaf block an edge lies in, or two hundred: the reference's word, which also asks that the block exist. -/
def blockW (r c : BitVec 32) : BitVec 32 :=
  Scalar.select (IntOp.andi (IntOp.cmpi .eq (divW r) (divW c)) (IntOp.cmpi .slt (divW r) 200#32)) (divW r) 200#32

/-- The word the programs compute for fifty is fifty. -/
theorem fiftyW_eq : fiftyW = 50#32 := by decide

/-- The machine's remainder by fifty. -/
theorem rem_fifty (w : BitVec 32) : (IntOp.remsi .host w 50#32).toInt = w.toInt.tmod 50 := by
  have h : ¬ IntOp.SDivCorner w 50#32 := by
    unfold IntOp.SDivCorner
    intro h
    rcases h with h | ⟨_, h⟩ <;> exact absurd h (by decide)
  unfold IntOp.remsi
  rw [if_neg h, BitVec.toInt_srem]
  rfl

/-- A node's place in its leaf block lies between zero and forty-nine. -/
theorem modW_range (w : BitVec 32) : 0 ≤ (modW w).toInt ∧ (modW w).toInt < 50 := by
  have h := rem_fifty w
  have hl : -50 < w.toInt.tmod 50 := by
    have := Int.lt_tmod_of_pos w.toInt (show (0:ℤ) < 50 by norm_num); omega
  have hu : w.toInt.tmod 50 < 50 := Int.tmod_lt_of_pos _ (by norm_num)
  unfold modW
  rw [fiftyW_eq]
  generalize IntOp.remsi .host w 50#32 = r at h
  have e : (IntOp.cmpi .slt (50#32) 0#32) = 0#1 := by decide
  rw [e, WordCmp.cmpi_slt_eq]
  have z : (0#32).toInt = 0 := by decide
  rw [z]
  by_cases hr : r.toInt < 0
  · have hne : IntOp.cmpi .ne r 0#32 = 1#1 := by
      rw [WordCmp.cmpi_ne_eq]
      have : r ≠ 0#32 := by rintro rfl; exact absurd hr (by decide)
      simp [this]
    rw [hne, decide_eq_true hr]
    have c : IntOp.andi (IntOp.cmpi .ne (BitVec.ofBool true) (0#1)) 1#1 = 1#1 := by decide
    rw [c]
    have : (IntOp.addi r 50#32).toInt = r.toInt + 50 := by
      unfold IntOp.addi
      rw [BitVec.toInt_add]
      have f : (50#32).toInt = 50 := by decide
      rw [f]
      exact Int.bmod_eq_of_le (by omega) (by omega)
    unfold Scalar.select
    rw [if_pos (show (1#1 : BitVec 1) = 1 from rfl), this]
    omega
  · rw [decide_eq_false hr]
    have c : ∀ x : BitVec 1, IntOp.andi (IntOp.cmpi .ne (BitVec.ofBool false) (0#1)) x = 0#1 := by decide
    rw [c]
    unfold Scalar.select
    rw [if_neg (by decide)]
    omega

/-- A place in a leaf block is not counted from the end. -/
theorem wrap_modW (n w : BitVec 32) : wrapW n (modW w) = modW w := by
  unfold wrapW
  rw [WordCmp.cmpi_slt_eq]
  have z : (0#32).toInt = 0 := by decide
  rw [z, decide_eq_false (by have := (modW_range w).1; omega)]
  rfl

/-- The kernel and the reference put an edge in the same leaf block, if it is in one. -/
theorem pair_block (r c : BitVec 32) (n : ℕ) (hn : n < 200) :
    (wrapW 200#32 (pairW r c)).toInt = n ↔ (wrapW 200#32 (blockW r c)).toInt = n := by
  have far : ∀ w : BitVec 32, 200 ≤ w.toInt → (wrapW 200#32 w).toInt ≠ n := by
    intro w hw
    unfold wrapW
    rw [WordCmp.cmpi_slt_eq]
    have z : (0#32).toInt = 0 := by decide
    rw [z, decide_eq_false (by omega)]
    show w.toInt ≠ n
    omega
  have t : (200#32).toInt = 200 := by decide
  by_cases h : (divW r).toInt < 200
  · have e : IntOp.cmpi .slt (divW r) 200#32 = 1#1 := by
      rw [WordCmp.cmpi_slt_eq, t, decide_eq_true h]; rfl
    unfold blockW pairW
    rw [e]
    have c1 : ∀ x : BitVec 1, IntOp.andi x 1#1 = x := by decide
    rw [c1]
  · have hk : 200 ≤ (pairW r c).toInt := by
      unfold pairW Scalar.select
      split <;> omega
    have hr : blockW r c = 200#32 := by
      have e : IntOp.cmpi .slt (divW r) 200#32 = 0#1 := by
        rw [WordCmp.cmpi_slt_eq, t, decide_eq_false h]; rfl
      unfold blockW
      rw [e]
      have c1 : ∀ x : BitVec 1, IntOp.andi x 0#1 = 0#1 := by decide
      rw [c1]
      rfl
    rw [hr]
    exact iff_of_false (far _ hk) (far _ (by rw [t]))

end Cert.Proof
-- ==== Proof.KHost.lean ====
module

public import proofs.«01_k».proof.Proof.Words
public import proofs.«01_k».proof.Proof.Gen.KernelIdeal.Frame
public import Idealize.ShloMosaic.Lib.StableHlo.RunRead

/-! The arrays the kernel's windows read: what the host operations before the launch leave in them. -/

@[expose] public section

noncomputable section
namespace Cert.Proof

open Idealize.ShloMosaic Idealize.ShloMosaic.ValueIdx Idealize.ShloMosaic.Routing Cert.KernelIdeal Cert.KernelIdeal.Gen

/-- A word for every edge. -/
abbrev spread (w : BitVec 32) : IVec S160000 32 := broadcastInDim S160000 ![] bcast_S_S160000 (constantI S_ 32 w)

/-- The first ends of the edges. -/
def headsOf (a : IVec S2x160000 32) : IVec S160000 32 :=
  shapeCast S160000 (extractStridedSlice S1x160000 ![0, 0] a slices_S2x160000_S1x160000_0_0) shapeCasts_S1x160000_S160000

/-- The second ends of the edges. -/
def tailsOf (a : IVec S2x160000 32) : IVec S160000 32 :=
  shapeCast S160000 (extractStridedSlice S1x160000 ![1, 0] a slices_S2x160000_S1x160000_1_0) shapeCasts_S1x160000_S160000

/-- Every node's leaf block. -/
def divV (v : IVec S160000 32) : IVec S160000 32 :=
  select (andi (cmpi .ne (signi v) (broadcastInDim S160000 ![] bcast_S_S160000 (signi (constantI S_ 32 50#32))))
      (cmpi .ne (Host.remsi v (spread 50#32)) (spread 0#32)))
    (subi (Host.divsi v (spread 50#32)) (spread 1#32)) (Host.divsi v (spread 50#32))

/-- The divisor of the remainder. -/
def fiftyV : IVec S_ 32 := select (cmpi .eq (constantI S_ 32 50#32) (constantI S_ 32 0#32)) (constantI S_ 32 1#32) (constantI S_ 32 50#32)

/-- Every node's place in its leaf block. -/
def modV (v : IVec S160000 32) : IVec S160000 32 :=
  have r := Host.remsi v (broadcastInDim S160000 ![] bcast_S_S160000 fiftyV)
  select (andi (cmpi .ne (cmpi .slt r (spread 0#32)) (broadcastInDim S160000 ![] bcast_S_S160000 (cmpi .slt fiftyV (constantI S_ 32 0#32))))
      (cmpi .ne r (spread 0#32)))
    (addi r (broadcastInDim S160000 ![] bcast_S_S160000 fiftyV)) r

/-- Every edge's leaf block, or two hundred. -/
def pairV (u v : IVec S160000 32) : IVec S160000 32 := select (cmpi .eq (divV u) (divV v)) (divV u) (spread 200#32)

/-- Indices counted from the end when negative. -/
def wrapV (n : BitVec 32) (v : IVec S160000 32) : IVec S160000 32 := select (cmpi .slt v (spread 0#32)) (addi v (spread n)) v

/-- A column of words. -/
abbrev colV (v : IVec S160000 32) : IVec S160000x1 32 := broadcastInDim S160000x1 ![0] bcast_S160000_S160000x1_0 v

/-- Three columns side by side. -/
def threeV (u v w : IVec S160000x1 32) : IVec S160000x3 32 :=
  concatenate S160000x3 1 [⟨S160000x1, u⟩, ⟨S160000x1, v⟩, ⟨S160000x1, w⟩] concatenates_S160000x1_S160000x1_S160000x1_S160000x3_d1

/-- The kernel's index words: every edge's leaf block, row and column. -/
def edgeWords (a : IVec S2x160000 32) : IVec S160000x3 32 :=
  threeV (colV (wrapV 200#32 (pairV (headsOf a) (tailsOf a)))) (colV (wrapV 56#32 (modV (headsOf a)))) (colV (wrapV 64#32 (modV (tailsOf a))))

/-- The difference of the positions of an edge's two ends. -/
def diffV (a : IVec S2x160000 32) (p : FVec Ideal S10000x3 .f32) : FVec Ideal S160000x3 .f32 :=
  subf (Host.gather gather_S10000x3_S160000x1_S160000x3_1_0_n_n_0_1_13 p (colV (wrapV 10000#32 (tailsOf a))))
    (Host.gather gather_S10000x3_S160000x1_S160000x3_1_0_n_n_0_1_13 p (colV (wrapV 10000#32 (headsOf a))))

/-- A table over leaf block, row and column gathering a number of every edge. -/
def gatherUp (a : IVec S2x160000 32) (u : FVec Ideal S160000 .f32) : FVec Ideal S200x56x64 .f32 :=
  Host.scatterAdd scatter_S200x56x64_S160000x3_S160000_n_012_012_1
    (broadcastInDim S200x56x64 ![] bcast_S_S200x56x64 (constant S_ .f32 0x00000000#32)) (edgeWords a) u

/-- One coordinate of the differences. -/
def diffCol (a : IVec S2x160000 32) (p : FVec Ideal S10000x3 .f32) (j : ℕ) (h : S160000x3.Slices ![0, j] S160000x1) : FVec Ideal S160000 .f32 :=
  shapeCast S160000 (extractStridedSlice S160000x1 ![0, j] (diffV a p) h) shapeCasts_S160000x1_S160000

variable (m : (b : Loc nD τ sig) → b.ty.Contents (Elt Ideal)) (c : Dev nD)

/-- Two lists of host operations, one after the other. -/
theorem after_both {τ : Topo} {sig : RefSig} {Val : EltTy → Type} (l k : List (HloOp τ sig Val)) (W : Valuation τ sig Val) :
    StableHlo.after (l ++ k) W = StableHlo.after k (StableHlo.after l W) := by
  induction l generalizing W with
  | nil => rfl
  | cons o l ih => exact ih _

/-- The host operations that find every edge's leaf block, row and column. -/
def early : List (HloOp τ sig (Elt Ideal)) :=
  hostOps0 ++ hostOps0_1 ++ hostOps0_2 ++ hostOps0_3 ++ hostOps0_4 ++ hostOps0_5 ++ hostOps0_6 ++ hostOps0_7 ++ hostOps0_8 ++ hostOps0_9

/-- The buffers after them. -/
def W : Valuation τ sig (Elt Ideal) := StableHlo.after early (fun b => m (c, b))

/-- The launch's buffers are what the remaining host operations leave. -/
theorem V_late (b : Ref sig .tc) : V m c b = StableHlo.after hostOps0_10 (W m c) (Proc.devRef .tc b) := by
  show StableHlo.after (early ++ (hostOps0_10 ++ [])) _ _ = _
  rw [after_both, List.append_nil]
  rfl

/-- The first ends. -/
theorem W_heads : W m c (Proc.devRef .tc main_v2) = headsOf (m (c.tc.loc main_arg1)) := by
  unfold W early
  after_reads_simp
  rfl

/-- The second ends. -/
theorem W_tails : W m c (Proc.devRef .tc main_v4) = tailsOf (m (c.tc.loc main_arg1)) := by
  unfold W early
  after_reads_simp
  rfl

/-- The leaf blocks. -/
theorem W_pairs : W m c (Proc.devRef .tc main_v8) = pairV (headsOf (m (c.tc.loc main_arg1))) (tailsOf (m (c.tc.loc main_arg1))) := by
  unfold W early
  after_reads_simp
  rfl

/-- The places of the first ends. -/
theorem W_rows : W m c (Proc.devRef .tc main_v9) = modV (headsOf (m (c.tc.loc main_arg1))) := by
  unfold W early
  after_reads_simp
  rfl

/-- The places of the second ends. -/
theorem W_cols : W m c (Proc.devRef .tc main_v10) = modV (tailsOf (m (c.tc.loc main_arg1))) := by
  unfold W early
  after_reads_simp
  rfl

/-- The edge values. -/
theorem W_values : W m c (Proc.devRef .tc main_arg2) = m (c.tc.loc main_arg2) := by
  unfold W early
  after_reads_simp

/-- The positions. -/
theorem W_positions : W m c (Proc.devRef .tc main_arg3) = m (c.tc.loc main_arg3) := by
  unfold W early
  after_reads_simp

/-- The table that counts the edges. -/
theorem entry_count : V m c main_v47 = gatherUp (m (c.tc.loc main_arg1)) (broadcastInDim S160000 ![] bcast_S_S160000 (constant S_ .f32 0x3F800000#32)) := by
  rw [V_late]
  after_reads_simp
  refine (congrArg₂ (fun i u => Host.scatterAdd scatter_S200x56x64_S160000x3_S160000_n_012_012_1 _ i u) ?_ ?_).trans rfl
  · change threeV (StableHlo.upto hostOps0_10 (W m c) 45 (Proc.devRef .tc main_v42)) (StableHlo.upto hostOps0_10 (W m c) 45 (Proc.devRef .tc main_v43))
      (StableHlo.upto hostOps0_10 (W m c) 45 (Proc.devRef .tc main_v44)) = edgeWords (m (c.tc.loc main_arg1))
    after_reads_simp
    rw [W_pairs, W_rows, W_cols]
    rfl
  · rfl

/-- The table of first coordinates. -/
theorem entry_first : V m c main_v69 = gatherUp (m (c.tc.loc main_arg1)) (diffCol (m (c.tc.loc main_arg1)) (m (c.tc.loc main_arg3)) 0 slices_S160000x3_S160000x1_0_0) := by
  rw [V_late]
  after_reads_simp
  refine (congrArg₂ (fun i u => Host.scatterAdd scatter_S200x56x64_S160000x3_S160000_n_012_012_1 _ i u) ?_ ?_).trans rfl
  · change threeV (StableHlo.upto hostOps0_10 (W m c) 75 (Proc.devRef .tc main_v65)) (StableHlo.upto hostOps0_10 (W m c) 75 (Proc.devRef .tc main_v66))
      (StableHlo.upto hostOps0_10 (W m c) 75 (Proc.devRef .tc main_v67)) = edgeWords (m (c.tc.loc main_arg1))
    after_reads_simp
    rw [W_pairs, W_rows, W_cols]
    rfl
  · rw [W_heads, W_tails, W_positions]
    rfl

/-- The table of second coordinates. -/
theorem entry_second : V m c main_v91 = gatherUp (m (c.tc.loc main_arg1)) (diffCol (m (c.tc.loc main_arg1)) (m (c.tc.loc main_arg3)) 1 slices_S160000x3_S160000x1_0_1) := by
  rw [V_late]
  after_reads_simp
  refine (congrArg₂ (fun i u => Host.scatterAdd scatter_S200x56x64_S160000x3_S160000_n_012_012_1 _ i u) ?_ ?_).trans rfl
  · change threeV (StableHlo.upto hostOps0_10 (W m c) 103 (Proc.devRef .tc main_v87)) (StableHlo.upto hostOps0_10 (W m c) 103 (Proc.devRef .tc main_v88))
      (StableHlo.upto hostOps0_10 (W m c) 103 (Proc.devRef .tc main_v89)) = edgeWords (m (c.tc.loc main_arg1))
    after_reads_simp
    rw [W_pairs, W_rows, W_cols]
    rfl
  · rw [W_heads, W_tails, W_positions]
    rfl

/-- The table of third coordinates. -/
theorem entry_third : V m c main_v113 = gatherUp (m (c.tc.loc main_arg1)) (diffCol (m (c.tc.loc main_arg1)) (m (c.tc.loc main_arg3)) 2 slices_S160000x3_S160000x1_0_2) := by
  rw [V_late]
  after_reads_simp
  refine (congrArg₂ (fun i u => Host.scatterAdd scatter_S200x56x64_S160000x3_S160000_n_012_012_1 _ i u) ?_ ?_).trans rfl
  · change threeV (StableHlo.upto hostOps0_10 (W m c) 131 (Proc.devRef .tc main_v109)) (StableHlo.upto hostOps0_10 (W m c) 131 (Proc.devRef .tc main_v110))
      (StableHlo.upto hostOps0_10 (W m c) 131 (Proc.devRef .tc main_v111)) = edgeWords (m (c.tc.loc main_arg1))
    after_reads_simp
    rw [W_pairs, W_rows, W_cols]
    rfl
  · rw [W_heads, W_tails, W_positions]
    rfl

/-- The table of edge values. -/
theorem entry_value : V m c main_v133 = gatherUp (m (c.tc.loc main_arg1)) (m (c.tc.loc main_arg2)) := by
  rw [V_late]
  after_reads_simp
  refine (congrArg₂ (fun i u => Host.scatterAdd scatter_S200x56x64_S160000x3_S160000_n_012_012_1 _ i u) ?_ ?_).trans rfl
  · change threeV (StableHlo.upto hostOps0_10 (W m c) 157 (Proc.devRef .tc main_v129)) (StableHlo.upto hostOps0_10 (W m c) 157 (Proc.devRef .tc main_v130))
      (StableHlo.upto hostOps0_10 (W m c) 157 (Proc.devRef .tc main_v131)) = edgeWords (m (c.tc.loc main_arg1))
    after_reads_simp
    rw [W_pairs, W_rows, W_cols]
    rfl
  · exact W_values m c

/-- The nodes by leaf block. -/
theorem entry_nodes : V m c main_v0 = shapeCast S2x200x50x256 (m (c.tc.loc main_arg0)) shapeCasts_S2x10000x256_S2x200x50x256 := by
  unfold_abbrev_sides
  after_reads_simp
  rfl

/-- The key offsets as a row. -/
theorem entry_bias : V m c main_v134 = shapeCast S1x768 (m (c.tc.loc main_arg5)) shapeCasts_S768_S1x768 := by
  unfold_abbrev_sides
  after_reads_simp
  rfl

/-- The output offsets as a row. -/
theorem entry_last : V m c main_v135 = shapeCast S1x256 (m (c.tc.loc main_arg7)) shapeCasts_S256_S1x256 := by
  unfold_abbrev_sides
  after_reads_simp
  rfl

/-- The gate offsets as a row. -/
theorem entry_offset : V m c main_v136 = shapeCast S1x8 (m (c.tc.loc main_arg9)) shapeCasts_S8_S1x8 := by
  unfold_abbrev_sides
  after_reads_simp
  rfl

end Cert.Proof
-- ==== Proof.Lands.lean ====
/- Where the updates of the two edge scatters land: an edge's three index words, read signed, name the block, the row and the column. -/
module

public import Idealize.ShloMosaic.Lib.Routing.OpsSet
public import Idealize.ShloMosaic.Lib.Routing.OpsPair

@[expose] public section

namespace Cert.Proof

open Idealize.ShloMosaic Idealize.ShloMosaic.ValueIdx Idealize.ShloMosaic.Routing

/-- The shape with extents `a`, `b`, `c` and `d`. -/
abbrev shape4 (a b c d : Nat) : Shape := ⟨4, ![a, b, c, d]⟩

/-- The scatter of one scalar per edge into an array over (block, row, column). -/
def cellDims (a b c : Nat) (wf : ScatterDims.WF (shape3 a b c) (shape2 160000 3) (shape1 160000) [] [0, 1, 2] [0, 1, 2] 1) :
    ScatterDims (shape3 a b c) (shape2 160000 3) (shape1 160000) where
  updateWindowDims := []
  insertedWindowDims := [0, 1, 2]
  scatterDimsToOperandDims := [0, 1, 2]
  indexVectorDim := 1
  wf := wf

/-- The scatter of four scalars per edge into an array over (block, row, column, feature). -/
def rowDims (a b c : Nat) (wf : ScatterDims.WF (shape4 a b c 4) (shape2 160000 3) (shape2 160000 4) [1] [0, 1, 2] [0, 1, 2] 1) :
    ScatterDims (shape4 a b c 4) (shape2 160000 3) (shape2 160000 4) where
  updateWindowDims := [1]
  insertedWindowDims := [0, 1, 2]
  scatterDimsToOperandDims := [0, 1, 2]
  indexVectorDim := 1
  wf := wf

variable {a b c : Nat}

/-- Edge `e`'s scalar lands at `(n, q, k)` when its three index words are `n`, `q` and `k`. -/
theorem cell_lands (wf) (idx : IVec (shape2 160000 3) 32) (e : Fin 160000) (n : Fin a) (q : Fin b) (k : Fin c) :
    (cellDims a b c wf).resultIdx? (ix1 e) idx = some (ix3 n q k)
      ↔ (idx (ix2 e 0)).toInt = n.val ∧ (idx (ix2 e 1)).toInt = q.val ∧ (idx (ix2 e 2)).toInt = k.val := by
  have hs : ∀ x : Fin 3, (cellDims a b c wf).start (ix1 e) idx x = (idx (ix2 e x)).toInt := fun x => by
    unfold ScatterDims.start
    rw [dif_pos (show x ∈ (cellDims a b c wf).scatterDimsToOperandDims from (by decide : ∀ x, x ∈ ([0, 1, 2] : List (Fin 3))) x)]
    refine congrArg (fun z => (idx z).toInt) (funext fun y => ?_)
    match x, y with
    | ⟨0, _⟩, ⟨0, _⟩ => rfl
    | ⟨0, _⟩, ⟨1, _⟩ => rfl
    | ⟨1, _⟩, ⟨0, _⟩ => rfl
    | ⟨1, _⟩, ⟨1, _⟩ => rfl
    | ⟨2, _⟩, ⟨0, _⟩ => rfl
    | ⟨2, _⟩, ⟨1, _⟩ => rfl
  have hw : ∀ x : Fin 3, (cellDims a b c wf).window (ix1 e) x = 0 := fun x => by
    match x with
    | ⟨0, _⟩ => rfl
    | ⟨1, _⟩ => rfl
    | ⟨2, _⟩ => rfl
  rw [Routing.resultIdx?_eq_some]
  constructor
  · intro h
    have h0 := h 0; have h1 := h 1; have h2 := h 2
    rw [hs, hw] at h0 h1 h2
    simp only [Nat.cast_zero, add_zero] at h0 h1 h2
    exact ⟨h0, h1, h2⟩
  · rintro ⟨h0, h1, h2⟩ x
    rw [hs, hw]
    simp only [Nat.cast_zero, add_zero]
    match x with
    | ⟨0, _⟩ => exact h0
    | ⟨1, _⟩ => exact h1
    | ⟨2, _⟩ => exact h2

/-- Feature `f'` of edge `e` lands at `(n, q, k, f)` when the edge's three index words are `n`, `q` and `k`, and `f' = f`. -/
theorem row_lands (wf) (idx : IVec (shape2 160000 3) 32) (e : Fin 160000) (f' : Fin 4) (n : Fin a) (q : Fin b) (k : Fin c) (f : Fin 4) :
    (rowDims a b c wf).resultIdx? (ix2 e f') idx = some (ix4 n q k f)
      ↔ ((idx (ix2 e 0)).toInt = n.val ∧ (idx (ix2 e 1)).toInt = q.val ∧ (idx (ix2 e 2)).toInt = k.val) ∧ f' = f := by
  have hs : ∀ x : Fin 3, (rowDims a b c wf).start (ix2 e f') idx x.castSucc = (idx (ix2 e x)).toInt := fun x => by
    unfold ScatterDims.start
    rw [dif_pos (show x.castSucc ∈ (rowDims a b c wf).scatterDimsToOperandDims from
      (by decide : ∀ x : Fin 3, x.castSucc ∈ ([0, 1, 2] : List (Fin 4))) x)]
    refine congrArg (fun z => (idx z).toInt) (funext fun y => ?_)
    match x, y with
    | ⟨0, _⟩, ⟨0, _⟩ => rfl
    | ⟨0, _⟩, ⟨1, _⟩ => rfl
    | ⟨1, _⟩, ⟨0, _⟩ => rfl
    | ⟨1, _⟩, ⟨1, _⟩ => rfl
    | ⟨2, _⟩, ⟨0, _⟩ => rfl
    | ⟨2, _⟩, ⟨1, _⟩ => rfl
  have hw : ∀ x : Fin 3, (rowDims a b c wf).window (ix2 e f') x.castSucc = 0 := fun x => by
    match x with
    | ⟨0, _⟩ => rfl
    | ⟨1, _⟩ => rfl
    | ⟨2, _⟩ => rfl
  have hs3 : (rowDims a b c wf).start (ix2 e f') idx (3 : Fin 4) = 0 := rfl
  have hw3 : (rowDims a b c wf).window (ix2 e f') (3 : Fin 4) = f'.val := rfl
  rw [Routing.resultIdx?_eq_some]
  constructor
  · intro h
    have h0 := h (Fin.castSucc 0); have h1 := h (Fin.castSucc 1); have h2 := h (Fin.castSucc 2)
    have h3 := h (3 : Fin 4)
    rw [hs, hw] at h0 h1 h2
    rw [hs3, hw3] at h3
    simp only [Nat.cast_zero, add_zero, zero_add] at h0 h1 h2 h3
    exact ⟨⟨h0, h1, h2⟩, Fin.ext (by exact_mod_cast h3)⟩
  · rintro ⟨⟨h0, h1, h2⟩, rfl⟩ x
    have key : ∀ x : Fin 3, ((idx (ix2 e x)).toInt : Int) = ((ix4 n q k f' x.castSucc).val : Int) →
        (rowDims a b c wf).start (ix2 e f') idx x.castSucc + ((rowDims a b c wf).window (ix2 e f') x.castSucc : Int)
          = ((ix4 n q k f' x.castSucc).val : Int) := fun x hx => by
      rw [hs, hw]
      simp only [Nat.cast_zero, add_zero]
      exact hx
    match x with
    | ⟨0, _⟩ => exact key 0 h0
    | ⟨1, _⟩ => exact key 1 h1
    | ⟨2, _⟩ => exact key 2 h2
    | ⟨3, _⟩ => show (rowDims a b c wf).start (ix2 e f') idx (3 : Fin 4) + ((rowDims a b c wf).window (ix2 e f') (3 : Fin 4) : Int) = _
                rw [hs3, hw3, zero_add]

end Cert.Proof
-- ==== Proof.KTables.lean ====
module

public import proofs.«01_k».proof.Proof.KHost
public import proofs.«01_k».proof.Proof.Lands
public import proofs.«01_k».proof.Proof.HeadRead

/-! The kernel's edge tables, entry by entry: each entry is a sum over the edges that land there. -/

@[expose] public section

noncomputable section
namespace Cert.Proof

open Idealize.ShloMosaic Idealize.ShloMosaic.ValueIdx Idealize.ShloMosaic.Routing Cert.KernelIdeal Cert.KernelIdeal.Gen

/-- Edge `e` joins places `q` and `k` of leaf block `n`. -/
def Edge (a : IVec S2x160000 32) (e : Fin 160000) (n q k : ℕ) : Prop :=
  (wrapW 200#32 (blockW (a (ix2 0 e)) (a (ix2 1 e)))).toInt = n ∧ (modW (a (ix2 0 e))).toInt = q ∧ (modW (a (ix2 1 e))).toInt = k

open Classical in
/-- The sum of a number of every edge over the edges that join two places of a leaf block. -/
def total (a : IVec S2x160000 32) (u : Fin 160000 → EReal) (n q k : ℕ) : EReal :=
  ∑ e ∈ Finset.univ.filter (fun e => Edge a e n q k), u e

/-- The first end of an edge. -/
theorem headsOf_apply (a : IVec S2x160000 32) (e : Fin 160000) : headsOf a (ix1 e) = a (ix2 0 e) := by
  unfold headsOf
  rw [shapeCast_1a_a_apply]
  exact extractStridedSlice_apply _ _ _ _ _ (by intro x; match x with | ⟨0, _⟩ => rfl | ⟨1, _⟩ => exact (Nat.zero_add _).symm)

/-- The second end of an edge. -/
theorem tailsOf_apply (a : IVec S2x160000 32) (e : Fin 160000) : tailsOf a (ix1 e) = a (ix2 1 e) := by
  unfold tailsOf
  rw [shapeCast_1a_a_apply]
  exact extractStridedSlice_apply _ _ _ _ _ (by intro x; match x with | ⟨0, _⟩ => rfl | ⟨1, _⟩ => exact (Nat.zero_add _).symm)

/-- A column at a row. -/
theorem colV_apply (v : IVec S160000 32) (e : Fin 160000) (o : Fin 1) : colV v (ix2 e o) = v (ix1 e) :=
  broadcastInDim_apply _ _ _ _ _ (by intro x; match x with | ⟨0, _⟩ => rfl)

/-- The first of three columns. -/
theorem threeV_zero (u v w : IVec S160000x1 32) (e : Fin 160000) : threeV u v w (ix2 e 0) = u (ix2 e 0) :=
  concatenate_apply_piece (t := S160000x3) 1 [⟨S160000x1, u⟩, ⟨S160000x1, v⟩, ⟨S160000x1, w⟩] concatenates_S160000x1_S160000x1_S160000x1_S160000x3_d1
    (ix2 e 0) 0 (Nat.lt_of_lt_of_le (by decide : 0 < 3) (le_refl 3)) S160000x1 u rfl rfl 0 rfl (ix2 e 0)
    (by intro x hx; match x with | ⟨0, _⟩ => rfl | ⟨1, _⟩ => exact absurd rfl hx) rfl

/-- The second of three columns. -/
theorem threeV_one (u v w : IVec S160000x1 32) (e : Fin 160000) : threeV u v w (ix2 e 1) = v (ix2 e 0) :=
  concatenate_apply_piece (t := S160000x3) 1 [⟨S160000x1, u⟩, ⟨S160000x1, v⟩, ⟨S160000x1, w⟩] concatenates_S160000x1_S160000x1_S160000x1_S160000x3_d1
    (ix2 e 1) 1 (Nat.lt_of_lt_of_le (by decide : 1 < 3) (le_refl 3)) S160000x1 v rfl rfl 1 rfl (ix2 e 0)
    (by intro x hx; match x with | ⟨0, _⟩ => rfl | ⟨1, _⟩ => exact absurd rfl hx) rfl

/-- The third of three columns. -/
theorem threeV_two (u v w : IVec S160000x1 32) (e : Fin 160000) : threeV u v w (ix2 e 2) = w (ix2 e 0) :=
  concatenate_apply_piece (t := S160000x3) 1 [⟨S160000x1, u⟩, ⟨S160000x1, v⟩, ⟨S160000x1, w⟩] concatenates_S160000x1_S160000x1_S160000x1_S160000x3_d1
    (ix2 e 2) 2 (Nat.lt_of_lt_of_le (by decide : 2 < 3) (le_refl 3)) S160000x1 w rfl rfl 2 rfl (ix2 e 0)
    (by intro x hx; match x with | ⟨0, _⟩ => rfl | ⟨1, _⟩ => exact absurd rfl hx) rfl

/-- Every node's leaf block, node by node. -/
theorem divV_apply (v : IVec S160000 32) (e : Fin 160000) : divV v (ix1 e) = divW (v (ix1 e)) := rfl

/-- Every node's place, node by node. -/
theorem modV_apply (v : IVec S160000 32) (e : Fin 160000) : modV v (ix1 e) = modW (v (ix1 e)) := rfl

/-- An edge's leaf block. -/
theorem edgeWords_zero (a : IVec S2x160000 32) (e : Fin 160000) :
    edgeWords a (ix2 e 0) = wrapW 200#32 (pairW (a (ix2 0 e)) (a (ix2 1 e))) := by
  unfold edgeWords
  rw [threeV_zero, colV_apply]
  show wrapW 200#32 (pairW (headsOf a (ix1 e)) (tailsOf a (ix1 e))) = _
  rw [headsOf_apply, tailsOf_apply]

/-- An edge's row. -/
theorem edgeWords_one (a : IVec S2x160000 32) (e : Fin 160000) : edgeWords a (ix2 e 1) = modW (a (ix2 0 e)) := by
  unfold edgeWords
  rw [threeV_one, colV_apply]
  show wrapW 56#32 (modW (headsOf a (ix1 e))) = _
  rw [headsOf_apply, wrap_modW]

/-- An edge's column. -/
theorem edgeWords_two (a : IVec S2x160000 32) (e : Fin 160000) : edgeWords a (ix2 e 2) = modW (a (ix2 1 e)) := by
  unfold edgeWords
  rw [threeV_two, colV_apply]
  show wrapW 64#32 (modW (tailsOf a (ix1 e))) = _
  rw [tailsOf_apply, wrap_modW]

/-- An entry of an edge table. -/
theorem gatherUp_apply (a : IVec S2x160000 32) (u : FVec Ideal S160000 .f32) (n : Fin 200) (i : Fin 56) (j : Fin 64) :
    gatherUp a u (ix3 n i j) = total a (fun e => u (ix1 e)) n.val i.val j.val := by
  unfold gatherUp
  unfold Host.scatterAdd
  rw [Ideal.hostScatterAdd_def]
  unfold Ideal.hostScatterAdd
  rw [show (broadcastInDim S200x56x64 ![] bcast_S_S200x56x64 (constant (F := Ideal) S_ .f32 0x00000000#32) (ix3 n i j) : EReal) = 0 from ofBits_zero, zero_add]
  have key : ∀ e : Fin 160000, (scatter_S200x56x64_S160000x3_S160000_n_012_012_1.resultIdx? (ix1 e) (edgeWords a) = some (ix3 n i j)) ↔ Edge a e n.val i.val j.val := fun e => by
    refine (cell_lands (a := 200) (b := 56) (c := 64) _ (edgeWords a) e n i j).trans ?_
    rw [edgeWords_zero, edgeWords_one, edgeWords_two]
    exact and_congr (pair_block _ _ _ n.isLt) Iff.rfl
  classical
  unfold total
  refine Finset.sum_nbij' (fun y => y 0) (fun e => ix1 e) ?_ ?_ ?_ ?_ ?_
  · intro y hy
    have h := (Finset.mem_filter.mp hy).2
    rw [eq_ix1 y] at h
    exact Finset.mem_filter.mpr ⟨Finset.mem_univ _, (key (y 0)).mp h⟩
  · intro e he
    exact Finset.mem_filter.mpr ⟨Finset.mem_univ _, (key e).mpr (Finset.mem_filter.mp he).2⟩
  · intro y _; exact (eq_ix1 y).symm
  · intro e _; rfl
  · intro y _; exact congrArg u (eq_ix1 y)

end Cert.Proof
-- ==== Proof.Given.lean ====
module

public import proofs.«01_k».proof.Proof.KTables
public import proofs.«01_k».proof.Proof.Spec

/-! The ten arrays both programs are given, and the leaf blocks they describe. -/

@[expose] public section

noncomputable section
namespace Cert.Proof

open Idealize.ShloMosaic Idealize.ShloMosaic.ValueIdx Cert.KernelIdeal Cert.KernelIdeal.Gen

/-- The arrays both programs are given. -/
structure Given where
  /-- The nodes' rows. -/
  x : FVec Ideal S2x10000x256 .f32
  /-- The two ends of every edge. -/
  edges : IVec S2x160000 32
  /-- The value of every edge. -/
  values : FVec Ideal S160000 .f32
  /-- The nodes' positions. -/
  places : FVec Ideal S10000x3 .f32
  /-- The weights of the three projections. -/
  wq : FVec Ideal S256x768 .f32
  /-- Their offsets. -/
  bq : FVec Ideal S768 .f32
  /-- The last projection's weights. -/
  wp : FVec Ideal S256x256 .f32
  /-- Its offsets. -/
  bp : FVec Ideal S256 .f32
  /-- The gate's weights. -/
  wg : FVec Ideal S4x8 .f32
  /-- The gate's offsets. -/
  bg : FVec Ideal S8 .f32

namespace Given

variable (a : Given)

/-- A feature of an edge: three position differences and its value. -/
def edgeFeat (j : Fin 4) (e : Fin 160000) : EReal :=
  if h : j.val < 3 then diffV a.edges a.places (ix2 e ⟨j.val, h⟩) else a.values (ix1 e)

/-- Leaf block `n` of batch entry `b`. -/
def leaf (b : Fin 2) (n : Fin 200) : Leaf where
  nodes p c := a.x (ix3 b ⟨50 * n.val + p.val, by omega⟩ c)
  wq e c := a.wq (ix2 e c)
  bq c := a.bq (ix1 c)
  wg j h := a.wg (ix2 j h)
  bg h := a.bg (ix1 h)
  linked q k := ∃ e, Edge a.edges e n.val q k
  feat j q k := total a.edges (a.edgeFeat j) n.val q k

/-- The result: every leaf block's attention. -/
def result : FVec Ideal S2x200x50x256 .f32 := fun y =>
  (a.leaf (y 0) (y 1)).out (fun e c => a.wp (ix2 e c)) (fun c => a.bp (ix1 c)) (y 2).val (y 3)

/-- One position difference of an edge, as the kernel spreads it. -/
theorem diffCol_feat (j : Fin 3) (h : S160000x3.Slices ![0, j.val] S160000x1) (e : Fin 160000) :
    diffCol a.edges a.places j.val h (ix1 e) = a.edgeFeat ⟨j.val, by omega⟩ e := by
  unfold edgeFeat diffCol
  rw [dif_pos j.isLt]
  refine (shapeCast_apply _ _ _ (ix2 e 0) ?_).trans (extractStridedSlice_apply _ _ _ _ _ ?_)
  · rw [Shape.rowMajor_val_two, Shape.rowMajor_val_one]; exact Nat.mul_one e.val
  · intro x
    match x with
    | ⟨0, _⟩ => exact (Nat.zero_add _).symm
    | ⟨1, _⟩ => rfl

open Classical in
/-- The number of edges that join two places is not zero exactly when there is one. -/
theorem total_one (n q k : ℕ) : total a.edges (fun _ => 1) n q k ≠ 0 ↔ ∃ e, Edge a.edges e n q k := by
  unfold total
  rw [Finset.sum_const, nsmul_one]
  constructor
  · intro h
    by_contra hc
    refine h ?_
    rw [Finset.filter_false_of_mem fun e _ he => hc ⟨e, he⟩]
    simp
  · rintro ⟨e, he⟩ h
    have : 0 < (Finset.univ.filter (fun e => Edge a.edges e n q k)).card := Finset.card_pos.mpr ⟨e, Finset.mem_filter.mpr ⟨Finset.mem_univ e, he⟩⟩
    rw [show (0 : EReal) = ((0 : ℕ) : EReal) from Nat.cast_zero.symm, Nat.cast_inj] at h
    omega

end Given
end Cert.Proof
-- ==== Proof.KWindows.lean ====
module

public import proofs.«01_k».proof.Proof.Given
public import proofs.«01_k».proof.Proof.Gen.KernelIdeal.Value
public import Idealize.ShloMosaic.Lib.Pipeline.ValueKit

/-! The blocks a grid point of the kernel reads, as parts of the given arrays. -/

@[expose] public section

noncomputable section
namespace Cert.Proof

open Idealize.ShloMosaic hiding ix0 ix1 ix2 ix3 ix4 ix5
open Idealize.ShloMosaic.ValueIdx Cert.KernelIdeal Cert.KernelIdeal.Gen

variable (m : (b : Loc nD τ sig) → b.ty.Contents (Elt Ideal)) (c : Dev nD)

/-- The arrays the kernel is given. -/
def kernelGiven : Given :=
  ⟨m (c.tc.loc main_arg0), m (c.tc.loc main_arg1), m (c.tc.loc main_arg2), m (c.tc.loc main_arg3), m (c.tc.loc main_arg4),
    m (c.tc.loc main_arg5), m (c.tc.loc main_arg6), m (c.tc.loc main_arg7), m (c.tc.loc main_arg8), m (c.tc.loc main_arg9)⟩

/-- Where the nodes' window stands at a grid point. -/
theorem index_nodes : ∀ t : Fin cfg0.N, win0_0.index t = ![(grid0.coords t 0).val, (grid0.coords t 1).val, 0, 0] := by decide +kernel
/-- Where the output's window stands. -/
theorem index_out : ∀ t : Fin cfg0.N, win0_12.index t = ![(grid0.coords t 0).val, (grid0.coords t 1).val, 0, 0] := by decide +kernel
/-- Where the edge tables' windows stand. -/
theorem index_table : ∀ t : Fin cfg0.N, win0_1.index t = ![(grid0.coords t 1).val, 0, 0] ∧ win0_2.index t = ![(grid0.coords t 1).val, 0, 0] ∧
    win0_3.index t = ![(grid0.coords t 1).val, 0, 0] ∧ win0_4.index t = ![(grid0.coords t 1).val, 0, 0] ∧ win0_5.index t = ![(grid0.coords t 1).val, 0, 0] := by
  decide +kernel

/-- The windows read whole stand at the start. -/
theorem index_whole (t : Fin cfg0.N) : win0_6.index t = ![0, 0] ∧ win0_7.index t = ![0, 0] ∧ win0_8.index t = ![0, 0] ∧ win0_9.index t = ![0, 0] ∧
    win0_10.index t = ![0, 0] ∧ win0_11.index t = ![0, 0] := ⟨rfl, rfl, rfl, rfl, rfl, rfl⟩

variable (t : Fin cfg0.N)

/-- The batch entry of a grid point. -/
def batch : Fin 2 := grid0.coords t 0
/-- The leaf block of a page of a grid point. -/
def block (g : Fin 4) : Fin 200 := ⟨4 * (grid0.coords t 1).val + g.val, by have := (grid0.coords t 1).isLt; change _ < 50 at this; omega⟩

/-- The nodes' block at a point. -/
theorem read_nodes (g : Fin 4) (p : Fin 50) (e : Fin 256) :
    iblk m c 0 t (ix4 0 g p e) = (kernelGiven m c).x (ix3 (batch t) ⟨50 * (block t g).val + p.val, by omega⟩ e) := by
  have h : iblk m c 0 t (ix4 0 g p e) = V m c main_v0 (ix4 (batch t) (block t g) p e) := by
    unfold iblk
    refine congrArg (V m c main_v0) (funext fun a => Fin.ext ?_)
    blk_simp [index_nodes]
    match a with
    | ⟨0, _⟩ => show (grid0.coords t 0).val * 1 + 0 = (grid0.coords t 0).val; omega
    | ⟨1, _⟩ => show (grid0.coords t 1).val * 4 + g.val = 4 * (grid0.coords t 1).val + g.val; omega
    | ⟨2, _⟩ => show 0 * 50 + p.val = p.val; omega
    | ⟨3, _⟩ => show 0 * 256 + e.val = e.val; omega
  rw [h, entry_nodes]
  refine shapeCast_apply _ _ _ _ ((Shape.rowMajor_val_three _).trans (Eq.trans ?_ (Shape.rowMajor_val_four _).symm))
  show (((batch t).val * 10000) + (50 * (block t g).val + p.val)) * 256 + e.val = (((batch t).val * 200 + (block t g).val) * 50 + p.val) * 256 + e.val
  ring

/-- A place of a table is known by its coordinates. -/
theorem table_place (y : S200x56x64.Idx) (g : Fin 4) (i : Fin 56) (j : Fin 64) (h0 : (y 0).val = (grid0.coords t 1).val * 4 + g.val)
    (h1 : (y 1).val = 0 * 56 + i.val) (h2 : (y 2).val = 0 * 64 + j.val) : y = ix3 (block t g) i j := by
  refine funext fun x => Fin.ext ?_
  match x with
  | ⟨0, _⟩ => exact h0.trans (congrArg (· + g.val) (Nat.mul_comm _ 4))
  | ⟨1, _⟩ => exact h1.trans (by show 0 * 56 + i.val = i.val; omega)
  | ⟨2, _⟩ => exact h2.trans (by show 0 * 64 + j.val = j.val; omega)

/-- A place of a matrix read whole is known by its coordinates. -/
theorem whole_place {A B : ℕ} (y : (⟨2, ![A, B]⟩ : Shape).Idx) (i : Fin A) (j : Fin B) (h0 : (y 0).val = 0 * A + i.val)
    (h1 : (y 1).val = 0 * B + j.val) : y = ix2 i j := by
  refine funext fun x => Fin.ext ?_
  match x with
  | ⟨0, _⟩ => exact h0.trans (by show 0 * A + i.val = i.val; omega)
  | ⟨1, _⟩ => exact h1.trans (by show 0 * B + j.val = j.val; omega)

/-- The count table's block at a point. -/
theorem read_count (g : Fin 4) (i : Fin 56) (j : Fin 64) : iblk m c 1 t (ix3 g i j) = V m c main_v47 (ix3 (block t g) i j) := by
  unfold iblk
  refine congrArg (V m c main_v47) (table_place t _ g i j ?_ ?_ ?_) <;> (blk_simp [(index_table t).1]; try rfl)

/-- The first difference table's block at a point. -/
theorem read_first (g : Fin 4) (i : Fin 56) (j : Fin 64) : iblk m c 2 t (ix3 g i j) = V m c main_v69 (ix3 (block t g) i j) := by
  unfold iblk
  refine congrArg (V m c main_v69) (table_place t _ g i j ?_ ?_ ?_) <;> (blk_simp [(index_table t).2.1]; try rfl)

/-- The second difference table's block at a point. -/
theorem read_second (g : Fin 4) (i : Fin 56) (j : Fin 64) : iblk m c 3 t (ix3 g i j) = V m c main_v91 (ix3 (block t g) i j) := by
  unfold iblk
  refine congrArg (V m c main_v91) (table_place t _ g i j ?_ ?_ ?_) <;> (blk_simp [(index_table t).2.2.1]; try rfl)

/-- The third difference table's block at a point. -/
theorem read_third (g : Fin 4) (i : Fin 56) (j : Fin 64) : iblk m c 4 t (ix3 g i j) = V m c main_v113 (ix3 (block t g) i j) := by
  unfold iblk
  refine congrArg (V m c main_v113) (table_place t _ g i j ?_ ?_ ?_) <;> (blk_simp [(index_table t).2.2.2.1]; try rfl)

/-- The value table's block at a point. -/
theorem read_value (g : Fin 4) (i : Fin 56) (j : Fin 64) : iblk m c 5 t (ix3 g i j) = V m c main_v133 (ix3 (block t g) i j) := by
  unfold iblk
  refine congrArg (V m c main_v133) (table_place t _ g i j ?_ ?_ ?_) <;> (blk_simp [(index_table t).2.2.2.2]; try rfl)

/-- The projections' weights at a point. -/
theorem read_wq (e : Fin 256) (j : Fin 768) : iblk m c 6 t (ix2 e j) = (kernelGiven m c).wq (ix2 e j) := by
  have h : iblk m c 6 t (ix2 e j) = V m c main_arg4 (ix2 e j) := by
    unfold iblk
    refine congrArg (V m c main_arg4) (whole_place _ e j ?_ ?_) <;> (blk_simp [(index_whole t).1]; try rfl)
  rw [h, V_main_arg4]
  rfl

/-- The last projection's weights at a point. -/
theorem read_wp (e j : Fin 256) : iblk m c 8 t (ix2 e j) = (kernelGiven m c).wp (ix2 e j) := by
  have h : iblk m c 8 t (ix2 e j) = V m c main_arg6 (ix2 e j) := by
    unfold iblk
    refine congrArg (V m c main_arg6) (whole_place _ e j ?_ ?_) <;> (blk_simp [(index_whole t).2.2.1]; try rfl)
  rw [h, V_main_arg6]
  rfl

/-- The gate's weights at a point. -/
theorem read_wg (e : Fin 4) (j : Fin 8) : iblk m c 10 t (ix2 e j) = (kernelGiven m c).wg (ix2 e j) := by
  have h : iblk m c 10 t (ix2 e j) = V m c main_arg8 (ix2 e j) := by
    unfold iblk
    refine congrArg (V m c main_arg8) (whole_place _ e j ?_ ?_) <;> (blk_simp [(index_whole t).2.2.2.2.1]; try rfl)
  rw [h, V_main_arg8]
  rfl

/-- The projections' offsets at a point. -/
theorem read_bq (j : Fin 768) : iblk m c 7 t (ix2 0 j) = (kernelGiven m c).bq (ix1 j) := by
  have h : iblk m c 7 t (ix2 0 j) = V m c main_v134 (ix2 0 j) := by
    unfold iblk
    refine congrArg (V m c main_v134) (whole_place _ 0 j ?_ ?_) <;> (blk_simp [(index_whole t).2.1]; try rfl)
  rw [h, entry_bias]
  exact shapeCast_apply _ _ _ _ ((Shape.rowMajor_val_one _).trans (Eq.trans (by show j.val = 0 * 768 + j.val; omega) (Shape.rowMajor_val_two _).symm))

/-- The last projection's offsets at a point. -/
theorem read_bp (j : Fin 256) : iblk m c 9 t (ix2 0 j) = (kernelGiven m c).bp (ix1 j) := by
  have h : iblk m c 9 t (ix2 0 j) = V m c main_v135 (ix2 0 j) := by
    unfold iblk
    refine congrArg (V m c main_v135) (whole_place _ 0 j ?_ ?_) <;> (blk_simp [(index_whole t).2.2.2.1]; try rfl)
  rw [h, entry_last]
  exact shapeCast_apply _ _ _ _ ((Shape.rowMajor_val_one _).trans (Eq.trans (by show j.val = 0 * 256 + j.val; omega) (Shape.rowMajor_val_two _).symm))

/-- The gate's offsets at a point. -/
theorem read_bg (j : Fin 8) : iblk m c 11 t (ix2 0 j) = (kernelGiven m c).bg (ix1 j) := by
  have h : iblk m c 11 t (ix2 0 j) = V m c main_v136 (ix2 0 j) := by
    unfold iblk
    refine congrArg (V m c main_v136) (whole_place _ 0 j ?_ ?_) <;> (blk_simp [(index_whole t).2.2.2.2.2]; try rfl)
  rw [h, entry_offset]
  exact shapeCast_apply _ _ _ _ ((Shape.rowMajor_val_one _).trans (Eq.trans (by show j.val = 0 * 8 + j.val; omega) (Shape.rowMajor_val_two _).symm))

end Cert.Proof
-- ==== Proof.KValue.lean ====
module

public import proofs.«01_k».proof.Proof.Fold
public import proofs.«01_k».proof.Proof.KWindows
public import proofs.«01_k».proof.Proof.Gen.KernelIdeal.Value
public import Idealize.ShloMosaic.Lib.Pipeline.ValueKit

/-! The kernel's final array: every leaf block's attention. -/

@[expose] public section

noncomputable section
namespace Cert.Proof

open Idealize.ShloMosaic hiding ix0 ix1 ix2 ix3 ix4 ix5
open Idealize.ShloMosaic.ValueIdx Cert.KernelIdeal Cert.KernelIdeal.Gen

variable (m : (b : Loc nD τ sig) → b.ty.Contents (Elt Ideal)) (c : Dev nD)

/-- A table's entry is the leaf block's feature, once the number it spreads is. -/
theorem feat_table (a : Given) (u : FVec Ideal S160000 .f32) (n : Fin 200) (k : Fin 4) (h : ∀ e, u (ix1 e) = a.edgeFeat k e) (b : Fin 2)
    (i : Fin 56) (j : Fin 64) : gatherUp a.edges u (ix3 n i j) = (a.leaf b n).feat k i.val j.val := by
  have e : (fun e => u (ix1 e)) = a.edgeFeat k := funext h
  rw [gatherUp_apply, e]
  simp only [Given.leaf]

/-- The count table's entry is not zero exactly at linked places. -/
theorem count_table (a : Given) (n : Fin 200) (b : Fin 2) (i : Fin 56) (j : Fin 64) :
    gatherUp a.edges (broadcastInDim S160000 ![] bcast_S_S160000 (constant S_ .f32 0x3F800000#32)) (ix3 n i j) ≠ 0 ↔ (a.leaf b n).linked i.val j.val := by
  rw [gatherUp_apply]
  refine Iff.trans (Eq.to_iff (congrArg (fun f : Fin 160000 → EReal => total a.edges f n.val i.val j.val ≠ 0) (funext fun e => ?_))) (a.total_one n.val i.val j.val)
  exact ofBits_one

/-- A grid point's output block is its leaf blocks' attention. -/
theorem point_result (hT : ∀ b n, ((kernelGiven m c).leaf b n).Tame) (t : Fin cfg0.N) (g : Fin 4) (q : Fin 50) (e : Fin 256) :
    stepOut (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (ix4 0 g q e) = (kernelGiven m c).result (ix4 (batch t) (block t g) q e) := by
  refine (stepOut_eq ((kernelGiven m c).leaf (batch t) (block t g)) g _ _ _ _ _ _ _ _ _ _ _ _ ?_ ?_ ?_ ?_ ?_ ?_ ?_ ?_ ?_ ?_ ?_ q e).trans ?_
  · exact read_nodes m c t g
  · exact read_wq m c t
  · exact read_bq m c t
  · intro i j
    rw [read_count, entry_count]
    exact count_table (kernelGiven m c) (block t g) (batch t) i j
  · intro i j
    rw [read_first, entry_first]
    exact feat_table (kernelGiven m c) _ (block t g) 0 (fun e => (kernelGiven m c).diffCol_feat 0 _ e) (batch t) i j
  · intro i j
    rw [read_second, entry_second]
    exact feat_table (kernelGiven m c) _ (block t g) 1 (fun e => (kernelGiven m c).diffCol_feat 1 _ e) (batch t) i j
  · intro i j
    rw [read_third, entry_third]
    exact feat_table (kernelGiven m c) _ (block t g) 2 (fun e => (kernelGiven m c).diffCol_feat 2 _ e) (batch t) i j
  · intro i j
    rw [read_value, entry_value]
    exact feat_table (kernelGiven m c) _ (block t g) 3 (fun e => rfl) (batch t) i j
  · exact read_wg m c t
  · exact read_bg m c t
  · exact fun i n => (hT (batch t) (block t g)).mass i n
  · unfold Given.result
    refine congrArg₂ (fun w b => ((kernelGiven m c).leaf (batch t) (block t g)).out w b q.val e) (funext fun i => funext fun j => ?_) (funext fun j => ?_)
    · exact read_wp m c t i j
    · exact read_bp m c t j

/-- The kernel's final array, when the scores are real. -/
theorem kernel_result (hT : ∀ b n, ((kernelGiven m c).leaf b n).Tame) : (dats m 0 c).arrAt 12 cfg0.N = (kernelGiven m c).result := by
  refine (dats m 0 c).arrAt_eq_of_covers 12 _ (by decide +kernel) fun t hf y => ?_
  blk_simp
  rw [after0_12]
  unfold outsAt0
  rw [step_eq]
  have hy : ∀ z : S1x4x50x256.Idx, z = ix4 (⟨0, Nat.one_pos⟩ : Fin 1) (z 1 : Fin 4) (z 2 : Fin 50) (z 3 : Fin 256) := fun z => funext fun x => by
    match x with
    | ⟨0, _⟩ => exact Fin.ext (by have h := (z 0).isLt; change (z 0).val < 1 at h; show (z 0).val = 0; omega)
    | ⟨1, _⟩ => rfl
    | ⟨2, _⟩ => rfl
    | ⟨3, _⟩ => rfl
  rw [hy y]
  refine (point_result m c hT t _ _ _).trans (congrArg (kernelGiven m c).result (funext fun a => Fin.ext ?_))
  blk_simp [index_out]
  match a with
  | ⟨0, _⟩ => show (grid0.coords t 0).val = (grid0.coords t 0).val * 1 + 0; omega
  | ⟨1, _⟩ => show 4 * (grid0.coords t 1).val + (y 1).val = (grid0.coords t 1).val * 4 + (y 1).val; omega
  | ⟨2, _⟩ => show (y 2).val = 0 * 50 + (y 2).val; omega
  | ⟨3, _⟩ => show (y 3).val = 0 * 256 + (y 3).val; omega

end Cert.Proof
-- ==== Proof.PreRead.lean ====
module

public import proofs.«01_k».proof.Proof.Given
public import proofs.«01_k».proof.Proof.PreFacts
public import Idealize.ShloMosaic.Lib.ReduceAll
public import Idealize.ShloMosaic.Lib.Routing.OpsPair

/-! What the precondition says: no two edges join the same two nodes, and the scores' inputs are real. -/

@[expose] public section

noncomputable section
namespace Cert.Proof

open Idealize.ShloMosaic Idealize.ShloMosaic.ValueIdx Idealize.ShloMosaic.Routing Cert.KernelIdeal Cert.KernelIdeal.Gen

/-- Every edge's leaf block, or two hundred, as the plain program spells it. -/
def blockV (u v : IVec S160000 32) : IVec S160000 32 :=
  select (andi (cmpi .eq (divV u) (divV v)) (cmpi .slt (divV u) (spread 200#32))) (divV u) (spread 200#32)

/-- Every edge's leaf block, row and column, as the plain program spells them, columns counted from `w` when negative. -/
def plainWords (w : BitVec 32) (a : IVec S2x160000 32) : IVec S160000x3 32 :=
  threeV (colV (wrapV 200#32 (blockV (headsOf a) (tailsOf a)))) (colV (wrapV 50#32 (modV (headsOf a)))) (colV (wrapV w (modV (tailsOf a))))

/-- The index words of an edge are its leaf block, row and column. -/
theorem plain_edge (w : BitVec 32) (a : IVec S2x160000 32) (e : Fin 160000) (n q k : ℕ) :
    ((plainWords w a (ix2 e 0)).toInt = n ∧ (plainWords w a (ix2 e 1)).toInt = q ∧ (plainWords w a (ix2 e 2)).toInt = k) ↔ Edge a e n q k := by
  have h0 : plainWords w a (ix2 e 0) = wrapW 200#32 (blockW (a (ix2 0 e)) (a (ix2 1 e))) := by
    unfold plainWords
    rw [threeV_zero, colV_apply]
    show wrapW 200#32 (blockW (headsOf a (ix1 e)) (tailsOf a (ix1 e))) = _
    rw [headsOf_apply, tailsOf_apply]
  have h1 : plainWords w a (ix2 e 1) = modW (a (ix2 0 e)) := by
    unfold plainWords
    rw [threeV_one, colV_apply]
    show wrapW 50#32 (modW (headsOf a (ix1 e))) = _
    rw [headsOf_apply, wrap_modW]
  have h2 : plainWords w a (ix2 e 2) = modW (a (ix2 1 e)) := by
    unfold plainWords
    rw [threeV_two, colV_apply]
    show wrapW w (modW (tailsOf a (ix1 e))) = _
    rw [tailsOf_apply, wrap_modW]
  rw [h0, h1, h2]
  exact Iff.rfl

/-- How many edges join every two places of every leaf block. -/
def countV (a : IVec S2x160000 32) : IVec Cert.Pre_single_edges_and_finite.S200x50x50 32 :=
  Host.scatter Cert.Pre_single_edges_and_finite.scatter_S200x50x50_S160000x3_S160000_n_012_012_1 IntOp.addi
    (broadcastInDim Cert.Pre_single_edges_and_finite.S200x50x50 ![] Cert.Pre_single_edges_and_finite.Facts.bcast_S_S200x50x50 (constantI S_ 32 0#32)) (plainWords 50#32 a) (spread 1#32)

/-- Whether two places of a leaf block are the same. -/
def sameV : IVec Cert.Pre_single_edges_and_finite.S200x50x50 1 :=
  broadcastInDim Cert.Pre_single_edges_and_finite.S200x50x50 ![0, 1, 2] Cert.Pre_single_edges_and_finite.Facts.bcast_S1x50x50_S200x50x50_0_1_2 (broadcastInDim Cert.Pre_single_edges_and_finite.S1x50x50 ![1, 2] Cert.Pre_single_edges_and_finite.Facts.bcast_S50x50_S1x50x50_1_2
    (cmpi .eq (addi (iotaInDim Cert.Pre_single_edges_and_finite.S50x50 32 0) (broadcastInDim Cert.Pre_single_edges_and_finite.S50x50 ![] Cert.Pre_single_edges_and_finite.Facts.bcast_S_S50x50 (constantI S_ 32 0#32))) (iotaInDim Cert.Pre_single_edges_and_finite.S50x50 32 1)))

/-- Every entry lies below the upper infinity. -/
def allBelow {s : Shape} (h : S_.BroadcastsInDim s ![]) {axes : List (Fin s.rank)} (r : s.ReducesTo axes S_) (x : FVec Ideal s .f32) : IVec S_ 1 :=
  Host.reduce IntOp.andi (cmpf .olt x (broadcastInDim s ![] h (constant S_ .f32 0x7F800000#32))) (constantI S_ 1 1#1) r Cert.Pre_single_edges_and_finite.Facts.h_S_

/-- The precondition: at most one edge for each two different places, and finite inputs. -/
theorem pre_split (a : Given) : Cert.Pre_single_edges_and_finite.fn (F := Ideal) a.x a.edges a.values a.places a.wq a.bq a.wp a.bp a.wg a.bg =
    andi (ori (cmpi .sle (countV a.edges) (broadcastInDim Cert.Pre_single_edges_and_finite.S200x50x50 ![] Cert.Pre_single_edges_and_finite.Facts.bcast_S_S200x50x50 (constantI S_ 32 1#32))) sameV)
      (broadcastInDim Cert.Pre_single_edges_and_finite.S200x50x50 ![] Cert.Pre_single_edges_and_finite.Facts.bcast_S_S200x50x50
        (andi (andi (andi (allBelow Cert.Pre_single_edges_and_finite.Facts.bcast_S_S2x10000x256 Cert.Pre_single_edges_and_finite.Facts.reducesTo_S2x10000x256_S_d0_1_2 (Host.absf a.x))
          (allBelow Cert.Pre_single_edges_and_finite.Facts.bcast_S_S256x512 Cert.Pre_single_edges_and_finite.Facts.reducesTo_S256x512_S_d0_1 (Host.absf (extractStridedSlice Cert.Pre_single_edges_and_finite.S256x512 ![0, 0] a.wq Cert.Pre_single_edges_and_finite.Facts.slices_S256x768_S256x512_0_0))))
          (allBelow Cert.Pre_single_edges_and_finite.Facts.bcast_S_S512 Cert.Pre_single_edges_and_finite.Facts.reducesTo_S512_S_d0 (Host.absf (extractStridedSlice Cert.Pre_single_edges_and_finite.S512 ![0] a.bq Cert.Pre_single_edges_and_finite.Facts.slices_S768_S512_0))))
          (allBelow Cert.Pre_single_edges_and_finite.Facts.bcast_S_S160000 Cert.Pre_single_edges_and_finite.Facts.reducesTo_S160000_S_d0 a.values))) := rfl

/-- Counting by words is counting, up to the words' width. -/
theorem foldl_words {ι : Type} (p : ι → Bool) (l : List ι) (z : ℕ) :
    l.foldl (fun r n => if p n = true then IntOp.addi r 1#32 else r) (BitVec.ofNat 32 z) = BitVec.ofNat 32 (z + (l.filter p).length) := by
  induction l generalizing z with
  | nil => rfl
  | cons n l ih =>
    rw [List.foldl_cons]
    by_cases h : p n = true
    · rw [if_pos h, List.filter_cons_of_pos h, List.length_cons,
        show IntOp.addi (BitVec.ofNat 32 z) 1#32 = BitVec.ofNat 32 (z + 1) from (BitVec.ofNat_add z 1).symm, ih]
      congr 1
      omega
    · rw [if_neg h, List.filter_cons_of_neg h, ih]

/-- Two members of a list of at most one are the same. -/
theorem eq_of_short {ι : Type} (l : List ι) (h : l.length ≤ 1) (a b : ι) (ha : a ∈ l) (hb : b ∈ l) : a = b := by
  match l, h with
  | [], _ => exact absurd ha List.not_mem_nil
  | [x], _ => exact (List.mem_singleton.mp ha).trans (List.mem_singleton.mp hb).symm
  | _ :: _ :: _, h => exact absurd h (by simp)

/-- A count of at most one by words is a count of at most one. -/
theorem short_count {ι : Type} (p : ι → Bool) (l : List ι) (hl : l.length < 2 ^ 31)
    (h : IntOp.cmpi .sle (l.foldl (fun r n => if p n = true then IntOp.addi r 1#32 else r) (BitVec.ofNat 32 0)) 1#32 = 1) : (l.filter p).length ≤ 1 := by
  rw [foldl_words, Nat.zero_add, WordCmp.cmpi_sle_eq, WordCmp.ofBool_eq_one_iff', decide_eq_true_eq,
    WordCmp.toInt_ofNat_of_lt (w := 32) ((List.length_filter_le p l).trans_lt hl)] at h
  have h1 : (1#32 : BitVec 32).toInt = 1 := rfl
  rw [h1] at h
  omega

/-- Two edges that join the same two places are the same edge, where the count says so. -/
theorem count_single (a : IVec S2x160000 32) (n : Fin 200) (q k : Fin 50)
    (h : IntOp.cmpi .sle (countV a (ix3 n q k)) 1#32 = 1) (e e' : Fin 160000) (he : Edge a e n.val q.val k.val) (he' : Edge a e' n.val q.val k.val) : e = e' := by
  unfold countV at h
  rw [scatter_at] at h
  have hl : ∀ o : Fin 160000, Cert.Pre_single_edges_and_finite.scatter_S200x50x50_S160000x3_S160000_n_012_012_1.resultIdx? (ix1 o) (plainWords 50#32 a) = some (ix3 n q k)
      ↔ Edge a o n.val q.val k.val := fun o => (cell_lands _ (plainWords 50#32 a) o n q k).trans (plain_edge 50#32 a o n.val q.val k.val)
  have hc := short_count (fun x : Fin Cert.Pre_single_edges_and_finite.S160000.numel => decide
    (Cert.Pre_single_edges_and_finite.scatter_S200x50x50_S160000x3_S160000_n_012_012_1.resultIdx? (Cert.Pre_single_edges_and_finite.S160000.rowMajor.symm x) (plainWords 50#32 a) = some (ix3 n q k)))
    (List.finRange _) (by rw [List.length_finRange]; decide) (by simp only [decide_eq_true_eq]; exact h)
  have hm : ∀ o : Fin 160000, Edge a o n.val q.val k.val → Cert.Pre_single_edges_and_finite.S160000.rowMajor (ix1 o) ∈
      (List.finRange Cert.Pre_single_edges_and_finite.S160000.numel).filter (fun x => decide
        (Cert.Pre_single_edges_and_finite.scatter_S200x50x50_S160000x3_S160000_n_012_012_1.resultIdx? (Cert.Pre_single_edges_and_finite.S160000.rowMajor.symm x) (plainWords 50#32 a) = some (ix3 n q k))) :=
    fun o ho => List.mem_filter.mpr ⟨List.mem_finRange _, decide_eq_true (by rw [Equiv.symm_apply_apply]; exact (hl o).mpr ho)⟩
  have hi := (Cert.Pre_single_edges_and_finite.S160000.rowMajor).injective (eq_of_short _ hc _ _ (hm e he) (hm e' he'))
  exact congrFun hi 0

/-- The upper infinity's pattern. -/
theorem ofBits_top : Ideal.ofBits .f32 0x7F800000#32 = ⊤ := by
  simp [Ideal.ofBits, Ideal.ieee, -EReal.coe_mul]

/-- A comparison of all entries that holds, holds of each. -/
theorem allBelow_lt {s : Shape} (h : S_.BroadcastsInDim s ![]) {axes : List (Fin s.rank)} (r : s.ReducesTo axes S_) (x : FVec Ideal s .f32)
    (j : S_.Idx) (e : allBelow h r x j = 1) (i : s.Idx) : x i < ⊤ := by
  haveI : Subsingleton S_.Idx := ⟨fun u v => funext fun z => z.elim0⟩
  have hc := Host.reduce_andi_all _ _ r Cert.Pre_single_edges_and_finite.Facts.h_S_ j e i
  have hd : Ideal.cmp .olt (x i) (Ideal.ofBits .f32 0x7F800000#32) = 1 := hc
  unfold Ideal.cmp at hd
  rw [WordCmp.ofBool_eq_one_iff', decide_eq_true_eq, ofBits_top] at hd
  exact hd

/-- A number whose absolute value lies below the upper infinity is real. -/
theorem isReal_of_abs (x : EReal) (h : max x (-x) < ⊤) : IsReal x := by
  have h1 : x ≠ ⊤ := ((le_max_left x (-x)).trans_lt h).ne
  have h2 : x ≠ ⊥ := fun e => by rw [e, EReal.neg_bot] at h; exact absurd h (by simp)
  exact ⟨x.toReal, (EReal.coe_toReal h1 h2).symm⟩

/-- What the precondition gives the proofs. -/
structure Good (a : Given) : Prop where
  tame : ∀ b n, (a.leaf b n).Tame
  single : ∀ (n : Fin 200) (q k : Fin 50), q ≠ k → ∀ e e', Edge a.edges e n.val q.val k.val → Edge a.edges e' n.val q.val k.val → e = e'

/-- The conjunction of two truth words. -/
theorem both_one (x y : BitVec 1) (h : IntOp.andi x y = 1) : x = 1 ∧ y = 1 := by
  revert x y; decide

/-- The disjunction of two truth words, one of which fails. -/
theorem left_one (x y : BitVec 1) (h : IntOp.ori x y = 1) (hy : y ≠ 1) : x = 1 := by
  revert x y; decide

/-- Two different places are not the same. -/
theorem sameV_ne (n : Fin 200) (q k : Fin 50) (h : q ≠ k) : sameV (ix3 n q k) ≠ 1 := by
  unfold sameV
  have e := (broadcastInDim_apply ![0, 1, 2] Cert.Pre_single_edges_and_finite.Facts.bcast_S1x50x50_S200x50x50_0_1_2 (broadcastInDim Cert.Pre_single_edges_and_finite.S1x50x50 ![1, 2] Cert.Pre_single_edges_and_finite.Facts.bcast_S50x50_S1x50x50_1_2
    (cmpi .eq (addi (iotaInDim Cert.Pre_single_edges_and_finite.S50x50 32 0) (broadcastInDim Cert.Pre_single_edges_and_finite.S50x50 ![] Cert.Pre_single_edges_and_finite.Facts.bcast_S_S50x50 (constantI S_ 32 0#32))) (iotaInDim Cert.Pre_single_edges_and_finite.S50x50 32 1)))
    (ix3 n q k) (ix3 0 q k) (by intro x; match x with | ⟨0, _⟩ => rfl | ⟨1, _⟩ => rfl | ⟨2, _⟩ => rfl)).trans
    (broadcastInDim_apply _ _ _ _ (ix2 q k) (by intro x; match x with | ⟨0, _⟩ => rfl | ⟨1, _⟩ => rfl))
  rw [e]
  show IntOp.cmpi .eq (IntOp.addi (BitVec.ofNat 32 q.val) 0#32) (BitVec.ofNat 32 k.val) ≠ 1
  intro he
  rw [WordCmp.cmpi_eq_eq, WordCmp.ofBool_eq_one_iff', decide_eq_true_eq] at he
  have hn := congrArg BitVec.toNat (show BitVec.ofNat 32 q.val + 0#32 = BitVec.ofNat 32 k.val from he)
  rw [BitVec.add_zero, BitVec.toNat_ofNat, BitVec.toNat_ofNat, Nat.mod_eq_of_lt (by omega), Nat.mod_eq_of_lt (by omega)] at hn
  exact h (Fin.ext hn)

/-- A finite sum of numbers below the upper infinity lies below it. -/
theorem sum_ne_top {ι : Type} (s : Finset ι) (f : ι → EReal) (h : ∀ i ∈ s, f i ≠ ⊤) : ∑ i ∈ s, f i ≠ ⊤ := by
  classical
  induction s using Finset.induction_on with
  | empty => exact EReal.zero_ne_top
  | insert i s hi ih =>
    rw [Finset.sum_insert hi]
    exact EReal.add_ne_top (h i (Finset.mem_insert_self i s)) (ih fun j hj => h j (Finset.mem_insert_of_mem hj))

/-- The precondition, read. -/
theorem good_of_pre (a : Given)
    (h : Cert.Pre_single_edges_and_finite.fn (F := Ideal) a.x a.edges a.values a.places a.wq a.bq a.wp a.bp a.wg a.bg = fun _ => 1#1) : Good a := by
  rw [pre_split] at h
  have hall : ∀ (n : Fin 200) (q k : Fin 50), _ := fun n q k => both_one _ _ (congrFun h (ix3 n q k))
  have hfin := (hall 0 0 0).2
  obtain ⟨h123, h4⟩ := both_one _ _ hfin
  obtain ⟨h12, h3⟩ := both_one _ _ h123
  obtain ⟨h1, h2⟩ := both_one _ _ h12
  refine ⟨fun b n => ⟨fun p c => ?_, fun e c hc => ?_, fun c hc => ?_, fun q k => ?_⟩, fun n q k hqk => ?_⟩
  · exact isReal_of_abs _ (allBelow_lt Cert.Pre_single_edges_and_finite.Facts.bcast_S_S2x10000x256 Cert.Pre_single_edges_and_finite.Facts.reducesTo_S2x10000x256_S_d0_1_2 _ _ h1 (ix3 b ⟨50 * n.val + p.val, by omega⟩ c))
  · refine isReal_of_abs _ ?_
    have hx := allBelow_lt Cert.Pre_single_edges_and_finite.Facts.bcast_S_S256x512 Cert.Pre_single_edges_and_finite.Facts.reducesTo_S256x512_S_d0_1 _ _ h2 (ix2 e ⟨c.val, hc⟩)
    have he := extractStridedSlice_apply ![0, 0] a.wq Cert.Pre_single_edges_and_finite.Facts.slices_S256x768_S256x512_0_0 (ix2 e (⟨c.val, hc⟩ : Fin 512)) (ix2 e c)
      (by intro x; match x with | ⟨0, _⟩ => exact (Nat.zero_add _).symm | ⟨1, _⟩ => exact (Nat.zero_add _).symm)
    change max (extractStridedSlice _ ![0, 0] a.wq _ (ix2 e (⟨c.val, hc⟩ : Fin 512))) (-(extractStridedSlice _ ![0, 0] a.wq _ (ix2 e (⟨c.val, hc⟩ : Fin 512)))) < ⊤ at hx
    rw [he] at hx
    exact hx
  · refine isReal_of_abs _ ?_
    have hx := allBelow_lt Cert.Pre_single_edges_and_finite.Facts.bcast_S_S512 Cert.Pre_single_edges_and_finite.Facts.reducesTo_S512_S_d0 _ _ h3 (ix1 ⟨c.val, hc⟩)
    have he := extractStridedSlice_apply ![0] a.bq Cert.Pre_single_edges_and_finite.Facts.slices_S768_S512_0 (ix1 (⟨c.val, hc⟩ : Fin 512)) (ix1 c)
      (by intro x; match x with | ⟨0, _⟩ => exact (Nat.zero_add _).symm)
    change max (extractStridedSlice _ ![0] a.bq _ (ix1 (⟨c.val, hc⟩ : Fin 512))) (-(extractStridedSlice _ ![0] a.bq _ (ix1 (⟨c.val, hc⟩ : Fin 512)))) < ⊤ at hx
    rw [he] at hx
    exact hx
  · simp only [Given.leaf]
    unfold total
    refine sum_ne_top _ _ fun e _ => ?_
    unfold Given.edgeFeat
    rw [dif_neg (by decide)]
    exact (allBelow_lt Cert.Pre_single_edges_and_finite.Facts.bcast_S_S160000 Cert.Pre_single_edges_and_finite.Facts.reducesTo_S160000_S_d0 _ _ h4 (ix1 e)).ne
  · exact fun e e' => count_single a.edges n q k (left_one _ _ (hall n q k).1 (sameV_ne n q k hqk)) e e'

end Cert.Proof
-- ==== Proof.RefLands.lean ====
module

public import proofs.«01_k».proof.ReferenceIdeal
public import Idealize.ShloMosaic.Lib.ValueIdx
public import Idealize.ShloMosaic.Lib.Routing.OpsPair
public import Idealize.ShloMosaic.Lib.Routing.OpsSet

/-! Where the updates of the plain program's fixed scatters land: the mean's column and the diagonal. -/

@[expose] public section

noncomputable section
namespace Cert.Proof

open Idealize.ShloMosaic Idealize.ShloMosaic.ValueIdx Cert.ReferenceIdeal

variable [Cert.ReferenceIdeal.Facts]

/-- The whole mask put at column `c` of a wider one. -/
theorem lands_mask (idx : IVec S1 32) (n n' : Fin 200) (q q' : Fin 50) (k' : Fin 50) (k : Fin 51) :
    scatter_S200x50x51_S1_S200x50x50_012_n_2_0.resultIdx? (ix3 n' q' k') idx = some (ix3 n q k)
      ↔ n'.val = n.val ∧ q'.val = q.val ∧ (idx (ix1 0)).toInt + k'.val = k.val := by
  have h2 : scatter_S200x50x51_S1_S200x50x50_012_n_2_0.start (ix3 n' q' k') idx 2 = (idx (ix1 0)).toInt :=
    congrArg (fun z => (idx z).toInt) (funext fun y => match y with | ⟨0, _⟩ => rfl)
  rw [Routing.resultIdx?_eq_some]
  constructor
  · intro h
    have a := h 0; have b := h 1; have c := h 2
    change (0 : Int) + (n'.val : Int) = (n.val : Int) at a
    change (0 : Int) + (q'.val : Int) = (q.val : Int) at b
    rw [h2] at c
    change (idx (ix1 0)).toInt + (k'.val : Int) = (k.val : Int) at c
    exact ⟨by omega, by omega, c⟩
  · rintro ⟨a, b, c⟩ x
    match x with
    | ⟨0, _⟩ => show (0 : Int) + (n'.val : Int) = (n.val : Int); omega
    | ⟨1, _⟩ => show (0 : Int) + (q'.val : Int) = (q.val : Int); omega
    | ⟨2, _⟩ => exact (congrArg (· + (k'.val : Int)) h2).trans c

/-- A column of the mask, set. -/
theorem lands_column (idx : IVec S1 32) (n n' : Fin 200) (q q' : Fin 50) (k : Fin 51) :
    scatter_S200x50x51_S1_S200x50_01_2_2_0.resultIdx? (ix2 n' q') idx = some (ix3 n q k)
      ↔ n'.val = n.val ∧ q'.val = q.val ∧ (idx (ix1 0)).toInt = k.val := by
  have h2 : scatter_S200x50x51_S1_S200x50_01_2_2_0.start (ix2 n' q') idx 2 = (idx (ix1 0)).toInt :=
    congrArg (fun z => (idx z).toInt) (funext fun y => match y with | ⟨0, _⟩ => rfl)
  rw [Routing.resultIdx?_eq_some]
  constructor
  · intro h
    have a := h 0; have b := h 1; have c := h 2
    change (0 : Int) + (n'.val : Int) = (n.val : Int) at a
    change (0 : Int) + (q'.val : Int) = (q.val : Int) at b
    rw [h2] at c
    change (idx (ix1 0)).toInt + (0 : Int) = (k.val : Int) at c
    exact ⟨by omega, by omega, by omega⟩
  · rintro ⟨a, b, c⟩ x
    match x with
    | ⟨0, _⟩ => show (0 : Int) + (n'.val : Int) = (n.val : Int); omega
    | ⟨1, _⟩ => show (0 : Int) + (q'.val : Int) = (q.val : Int); omega
    | ⟨2, _⟩ => exact (congrArg (· + (0 : Int)) h2).trans ((add_zero _).trans c)

/-- A column of the features, set. -/
theorem lands_features (idx : IVec S1 32) (n n' : Fin 200) (q q' : Fin 50) (f' : Fin 4) (k : Fin 51) (f : Fin 4) :
    scatter_S200x50x51x4_S1_S200x50x4_012_2_2_0.resultIdx? (ix3 n' q' f') idx = some (ix4 n q k f)
      ↔ n'.val = n.val ∧ q'.val = q.val ∧ (idx (ix1 0)).toInt = k.val ∧ f'.val = f.val := by
  have h2 : scatter_S200x50x51x4_S1_S200x50x4_012_2_2_0.start (ix3 n' q' f') idx 2 = (idx (ix1 0)).toInt :=
    congrArg (fun z => (idx z).toInt) (funext fun y => match y with | ⟨0, _⟩ => rfl)
  rw [Routing.resultIdx?_eq_some]
  constructor
  · intro h
    have a := h 0; have b := h 1; have c := h 2; have d := h 3
    change (0 : Int) + (n'.val : Int) = (n.val : Int) at a
    change (0 : Int) + (q'.val : Int) = (q.val : Int) at b
    rw [h2] at c
    change (idx (ix1 0)).toInt + (0 : Int) = (k.val : Int) at c
    change (0 : Int) + (f'.val : Int) = (f.val : Int) at d
    exact ⟨by omega, by omega, by omega, by omega⟩
  · rintro ⟨a, b, c, d⟩ x
    match x with
    | ⟨0, _⟩ => show (0 : Int) + (n'.val : Int) = (n.val : Int); omega
    | ⟨1, _⟩ => show (0 : Int) + (q'.val : Int) = (q.val : Int); omega
    | ⟨2, _⟩ => exact (congrArg (· + (0 : Int)) h2).trans ((add_zero _).trans c)
    | ⟨3, _⟩ => show (0 : Int) + (f'.val : Int) = (f.val : Int); omega

/-- One feature of a column, set. -/
theorem lands_feature (idx : IVec S2 32) (n n' : Fin 200) (q q' : Fin 50) (k : Fin 51) (f : Fin 4) :
    scatter_S200x50x51x4_S2_S200x50_01_23_23_0.resultIdx? (ix2 n' q') idx = some (ix4 n q k f)
      ↔ n'.val = n.val ∧ q'.val = q.val ∧ (idx (ix1 0)).toInt = k.val ∧ (idx (ix1 1)).toInt = f.val := by
  have h2 : scatter_S200x50x51x4_S2_S200x50_01_23_23_0.start (ix2 n' q') idx 2 = (idx (ix1 0)).toInt :=
    congrArg (fun z => (idx z).toInt) (funext fun y => match y with | ⟨0, _⟩ => rfl)
  have h3 : scatter_S200x50x51x4_S2_S200x50_01_23_23_0.start (ix2 n' q') idx 3 = (idx (ix1 1)).toInt :=
    congrArg (fun z => (idx z).toInt) (funext fun y => match y with | ⟨0, _⟩ => rfl)
  rw [Routing.resultIdx?_eq_some]
  constructor
  · intro h
    have a := h 0; have b := h 1; have c := h 2; have d := h 3
    change (0 : Int) + (n'.val : Int) = (n.val : Int) at a
    change (0 : Int) + (q'.val : Int) = (q.val : Int) at b
    rw [h2] at c
    rw [h3] at d
    change (idx (ix1 0)).toInt + (0 : Int) = (k.val : Int) at c
    change (idx (ix1 1)).toInt + (0 : Int) = (f.val : Int) at d
    exact ⟨by omega, by omega, by omega, by omega⟩
  · rintro ⟨a, b, c, d⟩ x
    match x with
    | ⟨0, _⟩ => show (0 : Int) + (n'.val : Int) = (n.val : Int); omega
    | ⟨1, _⟩ => show (0 : Int) + (q'.val : Int) = (q.val : Int); omega
    | ⟨2, _⟩ => exact (congrArg (· + (0 : Int)) h2).trans ((add_zero _).trans c)
    | ⟨3, _⟩ => exact (congrArg (· + (0 : Int)) h3).trans ((add_zero _).trans d)

/-- The features of listed places, set. -/
theorem lands_places (idx : IVec S50x2 32) (n n' : Fin 200) (i : Fin 50) (f' : Fin 4) (q : Fin 50) (k : Fin 51) (f : Fin 4) :
    scatter_S200x50x51x4_S50x2_S200x50x4_02_12_12_1.resultIdx? (ix3 n' i f') idx = some (ix4 n q k f)
      ↔ n'.val = n.val ∧ (idx (ix2 i 0)).toInt = q.val ∧ (idx (ix2 i 1)).toInt = k.val ∧ f'.val = f.val := by
  have h1 : scatter_S200x50x51x4_S50x2_S200x50x4_02_12_12_1.start (ix3 n' i f') idx 1 = (idx (ix2 i 0)).toInt :=
    congrArg (fun z => (idx z).toInt) (funext fun y => match y with | ⟨0, _⟩ => rfl | ⟨1, _⟩ => rfl)
  have h2 : scatter_S200x50x51x4_S50x2_S200x50x4_02_12_12_1.start (ix3 n' i f') idx 2 = (idx (ix2 i 1)).toInt :=
    congrArg (fun z => (idx z).toInt) (funext fun y => match y with | ⟨0, _⟩ => rfl | ⟨1, _⟩ => rfl)
  rw [Routing.resultIdx?_eq_some]
  constructor
  · intro h
    have a := h 0; have b := h 1; have c := h 2; have d := h 3
    change (0 : Int) + (n'.val : Int) = (n.val : Int) at a
    rw [h1] at b
    rw [h2] at c
    change (idx (ix2 i 0)).toInt + (0 : Int) = (q.val : Int) at b
    change (idx (ix2 i 1)).toInt + (0 : Int) = (k.val : Int) at c
    change (0 : Int) + (f'.val : Int) = (f.val : Int) at d
    exact ⟨by omega, by omega, by omega, by omega⟩
  · rintro ⟨a, b, c, d⟩ x
    match x with
    | ⟨0, _⟩ => show (0 : Int) + (n'.val : Int) = (n.val : Int); omega
    | ⟨1, _⟩ => exact (congrArg (· + (0 : Int)) h1).trans ((add_zero _).trans b)
    | ⟨2, _⟩ => exact (congrArg (· + (0 : Int)) h2).trans ((add_zero _).trans c)
    | ⟨3, _⟩ => show (0 : Int) + (f'.val : Int) = (f.val : Int); omega

/-- One feature of listed places, set. -/
theorem lands_place (idx : IVec S50x3 32) (n n' : Fin 200) (i : Fin 50) (q : Fin 50) (k : Fin 51) (f : Fin 4) :
    scatter_S200x50x51x4_S50x3_S200x50_0_123_123_1.resultIdx? (ix2 n' i) idx = some (ix4 n q k f)
      ↔ n'.val = n.val ∧ (idx (ix2 i 0)).toInt = q.val ∧ (idx (ix2 i 1)).toInt = k.val ∧ (idx (ix2 i 2)).toInt = f.val := by
  have h1 : scatter_S200x50x51x4_S50x3_S200x50_0_123_123_1.start (ix2 n' i) idx 1 = (idx (ix2 i 0)).toInt :=
    congrArg (fun z => (idx z).toInt) (funext fun y => match y with | ⟨0, _⟩ => rfl | ⟨1, _⟩ => rfl)
  have h2 : scatter_S200x50x51x4_S50x3_S200x50_0_123_123_1.start (ix2 n' i) idx 2 = (idx (ix2 i 1)).toInt :=
    congrArg (fun z => (idx z).toInt) (funext fun y => match y with | ⟨0, _⟩ => rfl | ⟨1, _⟩ => rfl)
  have h3 : scatter_S200x50x51x4_S50x3_S200x50_0_123_123_1.start (ix2 n' i) idx 3 = (idx (ix2 i 2)).toInt :=
    congrArg (fun z => (idx z).toInt) (funext fun y => match y with | ⟨0, _⟩ => rfl | ⟨1, _⟩ => rfl)
  rw [Routing.resultIdx?_eq_some]
  constructor
  · intro h
    have a := h 0; have b := h 1; have c := h 2; have d := h 3
    change (0 : Int) + (n'.val : Int) = (n.val : Int) at a
    rw [h1] at b
    rw [h2] at c
    rw [h3] at d
    change (idx (ix2 i 0)).toInt + (0 : Int) = (q.val : Int) at b
    change (idx (ix2 i 1)).toInt + (0 : Int) = (k.val : Int) at c
    change (idx (ix2 i 2)).toInt + (0 : Int) = (f.val : Int) at d
    exact ⟨by omega, by omega, by omega, by omega⟩
  · rintro ⟨a, b, c, d⟩ x
    match x with
    | ⟨0, _⟩ => show (0 : Int) + (n'.val : Int) = (n.val : Int); omega
    | ⟨1, _⟩ => exact (congrArg (· + (0 : Int)) h1).trans ((add_zero _).trans b)
    | ⟨2, _⟩ => exact (congrArg (· + (0 : Int)) h2).trans ((add_zero _).trans c)
    | ⟨3, _⟩ => exact (congrArg (· + (0 : Int)) h3).trans ((add_zero _).trans d)

end Cert.Proof
-- ==== Proof.RefMask.lean ====
module

public import proofs.«01_k».proof.Proof.PreRead
public import proofs.«01_k».proof.Proof.RefLands
public import proofs.«01_k».proof.Proof.Gen.ReferenceIdeal.Read

/-! The plain program's mask: one where a query sees a key, zero elsewhere. -/

@[expose] public section

noncomputable section
namespace Cert.Proof

open Idealize.ShloMosaic Idealize.ShloMosaic.ValueIdx Idealize.ShloMosaic.Routing Cert.ReferenceIdeal Cert.ReferenceIdeal.Read

/-- The plain program's index words for the mask. -/
theorem words_mask (a : IVec S2x160000 32) : val_main_v32 (F := Ideal) a = plainWords 50#32 a := rfl

/-- Its index words for the features. -/
theorem words_features (a : IVec S2x160000 32) : val_main_v87 (F := Ideal) a = plainWords 51#32 a := rfl

/-- Its position differences. -/
theorem diff_features (a : IVec S2x160000 32) (p : FVec Ideal S10000x3 .f32) : val_main_v65 (F := Ideal) a p = diffV a p := rfl

open Classical in
/-- One where an edge joins two places, zero elsewhere. -/
theorem adj_at (a : IVec S2x160000 32) (n : Fin 200) (q k : Fin 50) :
    val_main_v34 (F := Ideal) a (ix3 n q k) = if ∃ e, Edge a e n.val q.val k.val then 1 else 0 := by
  unfold val_main_v34
  rw [words_mask]
  have hl : ∀ o : Fin 160000, scatter_S200x50x50_S160000x3_S160000_n_012_012_1.resultIdx? (ix1 o) (plainWords 50#32 a) = some (ix3 n q k)
      ↔ Edge a o n.val q.val k.val := fun o => (cell_lands _ (plainWords 50#32 a) o n q k).trans (plain_edge 50#32 a o n.val q.val k.val)
  by_cases h : ∃ e, Edge a e n.val q.val k.val
  · rw [if_pos h]
    obtain ⟨e, he⟩ := h
    have hk := (hl e).mpr he
    have hv : ∀ y : S160000.Idx, scatter_S200x50x50_S160000x3_S160000_n_012_012_1.resultIdx? y (plainWords 50#32 a) = some (ix3 n q k) →
        val_main_v33 (F := Ideal) y = (1 : EReal) := fun _ _ => ofBits_one
    exact scatter_set_hit _ _ _ _ _ _ hv _ hk
  · rw [if_neg h]
    have hm : ∀ y : S160000.Idx, scatter_S200x50x50_S160000x3_S160000_n_012_012_1.resultIdx? y (plainWords 50#32 a) ≠ some (ix3 n q k) := fun y hy => by
      obtain ⟨o, rfl⟩ : ∃ o : Fin 160000, y = ix1 o := ⟨y 0, eq_ix1 y⟩
      exact h ⟨o, (hl o).mp hy⟩
    exact (scatter_set_miss _ _ _ _ _ hm).trans ofBits_zero

open Classical in
/-- One at a node itself, zero elsewhere. -/
theorem eye_at (n : Fin 200) (q k : Fin 50) :
    val_main_v41 (F := Ideal) (ix3 n q k) = if q = k then 1 else 0 := by
  refine (broadcastInDim_apply _ _ _ _ (ix2 q k) (by intro x; match x with | ⟨0, _⟩ => rfl | ⟨1, _⟩ => rfl)).trans ?_
  show (((IntOp.cmpi .eq (IntOp.addi (BitVec.ofNat 32 q.val) 0#32) (BitVec.ofNat 32 k.val)).toNat : ℝ) : EReal) = _
  have hw : IntOp.cmpi .eq (IntOp.addi (BitVec.ofNat 32 q.val) 0#32) (BitVec.ofNat 32 k.val) = BitVec.ofBool (decide (q = k)) := by
    rw [WordCmp.cmpi_eq_eq]
    refine congrArg BitVec.ofBool (decide_eq_decide.mpr ⟨fun he => ?_, fun he => ?_⟩)
    · have hn := congrArg BitVec.toNat (show BitVec.ofNat 32 q.val + 0#32 = BitVec.ofNat 32 k.val from he)
      rw [BitVec.add_zero, BitVec.toNat_ofNat, BitVec.toNat_ofNat, Nat.mod_eq_of_lt (by omega), Nat.mod_eq_of_lt (by omega)] at hn
      exact Fin.ext hn
    · rw [he]
      exact BitVec.add_zero _
  rw [hw]
  by_cases h : q = k
  · rw [if_pos h, decide_eq_true h]; simp
  · rw [if_neg h, decide_eq_false h]; simp

open Classical in
/-- The square mask: itself or an edge. -/
theorem square_at (a : IVec S2x160000 32) (n : Fin 200) (q k : Fin 50) :
    val_main_v43 (F := Ideal) a (ix3 n q k) = if q = k ∨ ∃ e, Edge a e n.val q.val k.val then 1 else 0 := by
  rw [val_main_v43_apply]
  show min (Ideal.ofBits .f32 0x3F800000#32) (max (Ideal.ofBits .f32 0x00000000#32) (val_main_v41 (F := Ideal) (ix3 n q k) + val_main_v34 (F := Ideal) a (ix3 n q k))) = _
  rw [eye_at, adj_at, ofBits_one, ofBits_zero]
  by_cases h : q = k
  · by_cases h' : ∃ e, Edge a e n.val q.val k.val
    · rw [if_pos h, if_pos h', if_pos (Or.inl h)]
      exact (min_eq_left ((le_add_of_nonneg_right zero_le_one).trans (le_max_right _ _)))
    · rw [if_pos h, if_neg h', if_pos (Or.inl h)]
      simp
  · by_cases h' : ∃ e, Edge a e n.val q.val k.val
    · rw [if_neg h, if_pos h', if_pos (Or.inr h')]
      simp
    · rw [if_neg h, if_neg h', if_neg (not_or.mpr ⟨h, h'⟩)]
      simp

open Classical in
/-- The whole mask: the mean's column is all ones. -/
theorem mask_at (a : Given) (b : Fin 2) (n : Fin 200) (q : Fin 50) (k : Fin 51) :
    val_main_v50 (F := Ideal) a.edges (ix3 n q k) = if (a.leaf b n).sees q.val k.val then 1 else 0 := by
  unfold val_main_v50
  have hc : (val_main_v48 (F := Ideal) (ix1 0)).toInt = 50 := rfl
  by_cases hk : k.val = 50
  · rw [if_pos (show (a.leaf b n).sees q.val k.val from Or.inl (Or.inl hk))]
    exact scatter_set_hit _ _ _ _ _ 1 (fun _ _ => ofBits_one) (ix2 n q) ((lands_column _ _ _ _ _ _).mpr ⟨rfl, rfl, hc.trans (by omega)⟩)
  · have hm : ∀ y, scatter_S200x50x51_S1_S200x50_01_2_2_0.resultIdx? y (val_main_v48 (F := Ideal)) ≠ some (ix3 n q k) := fun y hy => by
      rw [eq_ix2 y] at hy
      have h := ((lands_column _ _ _ _ _ _).mp hy).2.2
      rw [hc] at h
      omega
    rw [scatter_set_miss _ _ _ _ _ hm]
    unfold val_main_v47
    have hz : (val_main_v46 (F := Ideal) (ix1 0)).toInt = 0 := rfl
    have hv : ∀ y, scatter_S200x50x51_S1_S200x50x50_012_n_2_0.resultIdx? y (val_main_v46 (F := Ideal)) = some (ix3 n q k) →
        val_main_v43 (F := Ideal) a.edges y = val_main_v43 (F := Ideal) a.edges (ix3 n q ⟨k.val, by omega⟩) := fun y hy => by
      obtain ⟨n', q', k', rfl⟩ : ∃ (n' : Fin 200) (q' k' : Fin 50), y = ix3 n' q' k' := ⟨y 0, y 1, y 2, eq_ix3 y⟩
      obtain ⟨h0, h1, h2⟩ := (lands_mask _ _ _ _ _ _ _).mp hy
      rw [hz] at h2
      rw [Fin.ext h0, Fin.ext h1, show k' = ⟨k.val, by omega⟩ from Fin.ext (by show k'.val = k.val; omega)]
    rw [scatter_set_hit _ _ _ _ _ _ hv (ix3 n q ⟨k.val, by omega⟩) ((lands_mask _ _ _ _ _ _ _).mpr ⟨rfl, rfl, by rw [hz]; exact zero_add _⟩), square_at]
    refine if_congr ?_ rfl rfl
    show _ ↔ ((k.val = 50 ∨ k.val = q.val) ∨ _)
    constructor
    · rintro (h | h)
      · exact Or.inl (Or.inr (congrArg Fin.val h).symm)
      · exact Or.inr h
    · rintro ((h | h) | h)
      · exact absurd h hk
      · exact Or.inl (Fin.ext h.symm)
      · exact Or.inr h

end Cert.Proof
-- ==== Proof.RefBias.lean ====
module

public import proofs.«01_k».proof.Proof.RefMask

/-! The plain program's table of pair features. -/

@[expose] public section

noncomputable section
namespace Cert.Proof

open Idealize.ShloMosaic Idealize.ShloMosaic.ValueIdx Idealize.ShloMosaic.Routing Cert.ReferenceIdeal Cert.ReferenceIdeal.Read

/-- A place's own number is not wrapped. -/
theorem wrap_place (n : BitVec 32) (i : Fin 50) : (wrapW n (BitVec.ofNat 32 i.val)).toInt = (i.val : Int) := by
  have hi : (BitVec.ofNat 32 i.val).toInt = (i.val : Int) := WordCmp.toInt_ofNat_of_lt (w := 32) (by omega)
  unfold wrapW
  rw [WordCmp.cmpi_slt_eq]
  have z : (0#32).toInt = 0 := by decide
  rw [z, decide_eq_false (by omega)]
  exact hi

/-- The first column of the diagonal's places. -/
theorem diag_zero (i : Fin 50) : ((val_main_v110 (F := Ideal)) (ix2 i 0)).toInt = (i.val : Int) :=
  (congrArg BitVec.toInt (concatenate_pair_apply_left (t := S50x2) 1 (val_main_v108 (F := Ideal)) (val_main_v109 (F := Ideal)) _ (ix2 i 0) rfl (ix2 i 0)
    (by intro x; match x with | ⟨0, _⟩ => rfl | ⟨1, _⟩ => rfl))).trans (wrap_place 50#32 i)

/-- The second column of the diagonal's places. -/
theorem diag_one (i : Fin 50) : ((val_main_v110 (F := Ideal)) (ix2 i 1)).toInt = (i.val : Int) :=
  (congrArg BitVec.toInt (concatenate_pair_apply_right (t := S50x2) 1 (val_main_v108 (F := Ideal)) (val_main_v109 (F := Ideal)) _ (ix2 i 1) rfl rfl (ix2 i 0)
    (by intro x hx; match x with | ⟨0, _⟩ => rfl | ⟨1, _⟩ => exact absurd rfl hx) rfl)).trans (wrap_place 51#32 i)

/-- One column of three short ones. -/
theorem last_column (u v w : IVec S50x1 32) (h : Shape.Concatenates [S50x1, S50x1, S50x1] S50x3 1) (i : Fin 50) :
    concatenate S50x3 1 [⟨S50x1, u⟩, ⟨S50x1, v⟩, ⟨S50x1, w⟩] h (ix2 i 0) = u (ix2 i 0)
      ∧ concatenate S50x3 1 [⟨S50x1, u⟩, ⟨S50x1, v⟩, ⟨S50x1, w⟩] h (ix2 i 1) = v (ix2 i 0)
      ∧ concatenate S50x3 1 [⟨S50x1, u⟩, ⟨S50x1, v⟩, ⟨S50x1, w⟩] h (ix2 i 2) = w (ix2 i 0) :=
  ⟨concatenate_apply_piece (t := S50x3) 1 [⟨S50x1, u⟩, ⟨S50x1, v⟩, ⟨S50x1, w⟩] h (ix2 i 0) 0 (by decide : 0 < 3) S50x1 u rfl rfl 0 rfl (ix2 i 0)
      (by intro x hx; match x with | ⟨0, _⟩ => rfl | ⟨1, _⟩ => exact absurd rfl hx) rfl,
    concatenate_apply_piece (t := S50x3) 1 [⟨S50x1, u⟩, ⟨S50x1, v⟩, ⟨S50x1, w⟩] h (ix2 i 1) 1 (by decide : 1 < 3) S50x1 v rfl rfl 1 rfl (ix2 i 0)
      (by intro x hx; match x with | ⟨0, _⟩ => rfl | ⟨1, _⟩ => exact absurd rfl hx) rfl,
    concatenate_apply_piece (t := S50x3) 1 [⟨S50x1, u⟩, ⟨S50x1, v⟩, ⟨S50x1, w⟩] h (ix2 i 2) 2 (by decide : 2 < 3) S50x1 w rfl rfl 2 rfl (ix2 i 0)
      (by intro x hx; match x with | ⟨0, _⟩ => rfl | ⟨1, _⟩ => exact absurd rfl hx) rfl⟩

/-- The diagonal's row word. -/
theorem last_zero (i : Fin 50) : ((val_main_v128 (F := Ideal)) (ix2 i 0)).toInt = (i.val : Int) :=
  (congrArg BitVec.toInt (last_column _ _ _ _ i).1).trans (wrap_place 50#32 i)

/-- The diagonal's column word. -/
theorem last_one (i : Fin 50) : ((val_main_v128 (F := Ideal)) (ix2 i 1)).toInt = (i.val : Int) :=
  (congrArg BitVec.toInt (last_column _ _ _ _ i).2.1).trans (wrap_place 51#32 i)

/-- The diagonal's feature word. -/
theorem last_two (i : Fin 50) : ((val_main_v128 (F := Ideal)) (ix2 i 2)).toInt = 3 :=
  (congrArg BitVec.toInt (last_column _ _ _ _ i).2.2).trans rfl

/-- The mean's column and the last feature. -/
theorem mean_zero : ((val_main_v94 (F := Ideal)) (ix1 0)).toInt = 50 :=
  (congrArg BitVec.toInt (concatenate_pair_apply_left (t := S2) 0 (val_main_v92 (F := Ideal)) (val_main_v93 (F := Ideal)) _ (ix1 0) rfl (ix1 0)
    (by intro x; match x with | ⟨0, _⟩ => rfl))).trans rfl

/-- The last feature's number. -/
theorem mean_one : ((val_main_v94 (F := Ideal)) (ix1 1)).toInt = 3 :=
  (congrArg BitVec.toInt (concatenate_pair_apply_right (t := S2) 0 (val_main_v92 (F := Ideal)) (val_main_v93 (F := Ideal)) _ (ix1 1) rfl rfl (ix1 0)
    (by intro x hx; match x with | ⟨0, _⟩ => exact absurd rfl hx) rfl)).trans rfl

/-- The features of an edge, side by side. -/
theorem edge_row (a : Given) (e : Fin 160000) (f : Fin 4) : val_main_v67 (F := Ideal) a.edges a.values a.places (ix2 e f) = a.edgeFeat f e := by
  unfold val_main_v67
  by_cases h : f.val < 3
  · unfold Given.edgeFeat
    rw [dif_pos h]
    refine (concatenate_pair_apply_left (t := S160000x4) (s₁ := S160000x3) (s₂ := S160000x1) 1 _ _ _ (ix2 e f) rfl (ix2 e ⟨f.val, h⟩) ?_).trans (congrFun (diff_features a.edges a.places) _)
    intro x
    match x with
    | ⟨0, _⟩ => rfl
    | ⟨1, _⟩ => rfl
  · unfold Given.edgeFeat
    rw [dif_neg h]
    refine (concatenate_pair_apply_right (t := S160000x4) (s₁ := S160000x3) (s₂ := S160000x1) 1 _ _ _ (ix2 e f) rfl rfl (ix2 e 0) ?_ ?_).trans
      (broadcastInDim_apply _ _ _ _ (ix1 e) (by intro x; match x with | ⟨0, _⟩ => rfl))
    · intro x hx
      match x with
      | ⟨0, _⟩ => rfl
      | ⟨1, _⟩ => exact absurd rfl hx
    · show 0 + 3 = f.val
      omega

open Classical in
/-- The features of an edge between two different places, or zero. -/
theorem spread_at (a : Given) (hg : Good a) (b : Fin 2) (n : Fin 200) (q k : Fin 50) (hqk : q ≠ k) (k' : Fin 51) (hk : k'.val = k.val) (f : Fin 4) :
    val_main_v88 (F := Ideal) a.edges a.values a.places (ix4 n q k' f) = (a.leaf b n).feat f q.val k.val := by
  unfold val_main_v88
  rw [words_features]
  have hl : ∀ (o : Fin 160000) (f' : Fin 4), scatter_S200x50x51x4_S160000x3_S160000x4_1_012_012_1.resultIdx? (ix2 o f') (plainWords 51#32 a.edges) = some (ix4 n q k' f)
      ↔ Edge a.edges o n.val q.val k.val ∧ f' = f := fun o f' =>
    (row_lands _ (plainWords 51#32 a.edges) o f' n q k' f).trans (and_congr ((plain_edge 51#32 a.edges o n.val q.val k'.val).trans (by rw [hk])) Iff.rfl)
  simp only [Given.leaf]
  unfold total
  by_cases h : ∃ e, Edge a.edges e n.val q.val k.val
  · obtain ⟨e, he⟩ := h
    have hf : (Finset.univ.filter fun e => Edge a.edges e n.val q.val k.val) = {e} := by
      ext o
      rw [Finset.mem_filter, Finset.mem_singleton]
      exact ⟨fun ho => hg.single n q k hqk o e ho.2 he, fun ho => ⟨Finset.mem_univ o, ho ▸ he⟩⟩
    have hv : ∀ y : S160000x4.Idx, scatter_S200x50x51x4_S160000x3_S160000x4_1_012_012_1.resultIdx? y (plainWords 51#32 a.edges) = some (ix4 n q k' f) →
        val_main_v67 (F := Ideal) a.edges a.values a.places y = a.edgeFeat f e := fun y hy => by
      obtain ⟨o, f', rfl⟩ : ∃ (o : Fin 160000) (f' : Fin 4), y = ix2 o f' := ⟨y 0, y 1, eq_ix2 y⟩
      obtain ⟨ho, hf'⟩ := (hl o f').mp hy
      rw [edge_row, hf', hg.single n q k hqk o e ho he]
    rw [hf, Finset.sum_singleton]
    exact scatter_set_hit _ _ _ _ _ _ hv _ ((hl e f).mpr ⟨he, rfl⟩)
  · have hm : ∀ y : S160000x4.Idx, scatter_S200x50x51x4_S160000x3_S160000x4_1_012_012_1.resultIdx? y (plainWords 51#32 a.edges) ≠ some (ix4 n q k' f) := fun y hy => by
      obtain ⟨o, f', rfl⟩ : ∃ (o : Fin 160000) (f' : Fin 4), y = ix2 o f' := ⟨y 0, y 1, eq_ix2 y⟩
      exact h ⟨o, ((hl o f').mp hy).1⟩
    rw [Finset.filter_false_of_mem fun e _ he => h ⟨e, he⟩, Finset.sum_empty]
    exact (scatter_set_miss _ _ _ _ _ hm).trans ofBits_zero

/-- The features after the mean's column is set. -/
theorem mean_features (a : Given) (n : Fin 200) (q : Fin 50) (k : Fin 51) (f : Fin 4) :
    val_main_v96 (F := Ideal) a.edges a.values a.places (ix4 n q k f)
      = if k.val = 50 then (if f = 3 then 1 else 0) else val_main_v88 (F := Ideal) a.edges a.values a.places (ix4 n q k f) := by
  have hc : (val_main_v89 (F := Ideal) (ix1 0)).toInt = 50 := rfl
  unfold val_main_v96
  by_cases hk : k.val = 50
  · rw [if_pos hk]
    by_cases hf : f = 3
    · rw [if_pos hf]
      have hv : ∀ y : S200x50.Idx, scatter_S200x50x51x4_S2_S200x50_01_23_23_0.resultIdx? y (val_main_v94 (F := Ideal)) = some (ix4 n q k f) →
          val_main_v95 (F := Ideal) y = (1 : EReal) := fun _ _ => ofBits_one
      exact scatter_set_hit _ _ _ _ _ _ hv _ ((lands_feature (val_main_v94 (F := Ideal)) n n q q k f).mpr ⟨rfl, rfl, mean_zero.trans (by omega), mean_one.trans (by rw [hf]; rfl)⟩)
    · rw [if_neg hf]
      have hm : ∀ y : S200x50.Idx, scatter_S200x50x51x4_S2_S200x50_01_23_23_0.resultIdx? y (val_main_v94 (F := Ideal)) ≠ some (ix4 n q k f) := fun y hy => by
        obtain ⟨n', q', rfl⟩ : ∃ (n' : Fin 200) (q' : Fin 50), y = ix2 n' q' := ⟨y 0, y 1, eq_ix2 y⟩
        have h := ((lands_feature _ _ _ _ _ _ _).mp hy).2.2.2
        rw [mean_one] at h
        exact hf (Fin.ext (by show f.val = 3; omega))
      refine (scatter_set_miss _ _ _ _ _ hm).trans ?_
      unfold val_main_v91
      have hv : ∀ y : S200x50x4.Idx, scatter_S200x50x51x4_S1_S200x50x4_012_2_2_0.resultIdx? y (val_main_v89 (F := Ideal)) = some (ix4 n q k f) →
          val_main_v90 (F := Ideal) y = (0 : EReal) := fun _ _ => ofBits_zero
      exact scatter_set_hit _ _ _ _ _ _ hv _ ((lands_features (val_main_v89 (F := Ideal)) n n q q f k f).mpr ⟨rfl, rfl, hc.trans (by omega), rfl⟩)
  · rw [if_neg hk]
    have hm : ∀ y : S200x50.Idx, scatter_S200x50x51x4_S2_S200x50_01_23_23_0.resultIdx? y (val_main_v94 (F := Ideal)) ≠ some (ix4 n q k f) := fun y hy => by
      obtain ⟨n', q', rfl⟩ : ∃ (n' : Fin 200) (q' : Fin 50), y = ix2 n' q' := ⟨y 0, y 1, eq_ix2 y⟩
      have h := ((lands_feature _ _ _ _ _ _ _).mp hy).2.2.1
      rw [mean_zero] at h
      omega
    have hm' : ∀ y : S200x50x4.Idx, scatter_S200x50x51x4_S1_S200x50x4_012_2_2_0.resultIdx? y (val_main_v89 (F := Ideal)) ≠ some (ix4 n q k f) := fun y hy => by
      obtain ⟨n', q', f', rfl⟩ : ∃ (n' : Fin 200) (q' : Fin 50) (f' : Fin 4), y = ix3 n' q' f' := ⟨y 0, y 1, y 2, eq_ix3 y⟩
      have h := ((lands_features _ _ _ _ _ _ _ _).mp hy).2.2.1
      rw [hc] at h
      omega
    exact (scatter_set_miss _ _ _ _ _ hm).trans (scatter_set_miss _ _ _ _ _ hm')

/-- The features after the diagonal is set. -/
theorem diag_features (a : Given) (n : Fin 200) (q : Fin 50) (k : Fin 51) (f : Fin 4) :
    val_main_v130 (F := Ideal) a.edges a.values a.places (ix4 n q k f)
      = if k.val = q.val then (if f = 3 then 1 else 0) else val_main_v96 (F := Ideal) a.edges a.values a.places (ix4 n q k f) := by
  unfold val_main_v130
  by_cases hk : k.val = q.val
  · rw [if_pos hk]
    by_cases hf : f = 3
    · rw [if_pos hf]
      have hv : ∀ y : S200x50.Idx, scatter_S200x50x51x4_S50x3_S200x50_0_123_123_1.resultIdx? y (val_main_v128 (F := Ideal)) = some (ix4 n q k f) →
          val_main_v129 (F := Ideal) y = (1 : EReal) := fun _ _ => ofBits_one
      exact scatter_set_hit _ _ _ _ _ _ hv _ ((lands_place (val_main_v128 (F := Ideal)) n n q q k f).mpr
        ⟨rfl, last_zero q, (last_one q).trans (by omega), (last_two q).trans (by rw [hf]; rfl)⟩)
    · rw [if_neg hf]
      have hm : ∀ y : S200x50.Idx, scatter_S200x50x51x4_S50x3_S200x50_0_123_123_1.resultIdx? y (val_main_v128 (F := Ideal)) ≠ some (ix4 n q k f) := fun y hy => by
        obtain ⟨n', i, rfl⟩ : ∃ (n' : Fin 200) (i : Fin 50), y = ix2 n' i := ⟨y 0, y 1, eq_ix2 y⟩
        have h := ((lands_place _ _ _ _ _ _ _).mp hy).2.2.2
        rw [last_two] at h
        exact hf (Fin.ext (by show f.val = 3; omega))
      refine (scatter_set_miss _ _ _ _ _ hm).trans ?_
      unfold val_main_v112
      have hv : ∀ y : S200x50x4.Idx, scatter_S200x50x51x4_S50x2_S200x50x4_02_12_12_1.resultIdx? y (val_main_v110 (F := Ideal)) = some (ix4 n q k f) →
          val_main_v111 (F := Ideal) y = (0 : EReal) := fun _ _ => ofBits_zero
      exact scatter_set_hit _ _ _ _ _ _ hv _ ((lands_places (val_main_v110 (F := Ideal)) n n q f q k f).mpr ⟨rfl, diag_zero q, (diag_one q).trans (by omega), rfl⟩)
  · rw [if_neg hk]
    have hm : ∀ y : S200x50.Idx, scatter_S200x50x51x4_S50x3_S200x50_0_123_123_1.resultIdx? y (val_main_v128 (F := Ideal)) ≠ some (ix4 n q k f) := fun y hy => by
      obtain ⟨n', i, rfl⟩ : ∃ (n' : Fin 200) (i : Fin 50), y = ix2 n' i := ⟨y 0, y 1, eq_ix2 y⟩
      obtain ⟨-, h0, h1, -⟩ := (lands_place _ _ _ _ _ _ _).mp hy
      rw [last_zero] at h0
      rw [last_one] at h1
      omega
    have hm' : ∀ y : S200x50x4.Idx, scatter_S200x50x51x4_S50x2_S200x50x4_02_12_12_1.resultIdx? y (val_main_v110 (F := Ideal)) ≠ some (ix4 n q k f) := fun y hy => by
      obtain ⟨n', i, f', rfl⟩ : ∃ (n' : Fin 200) (i : Fin 50) (f' : Fin 4), y = ix3 n' i f' := ⟨y 0, y 1, y 2, eq_ix3 y⟩
      obtain ⟨-, h0, h1, -⟩ := (lands_places _ _ _ _ _ _ _ _).mp hy
      rw [diag_zero] at h0
      rw [diag_one] at h1
      omega
    exact (scatter_set_miss _ _ _ _ _ hm).trans (scatter_set_miss _ _ _ _ _ hm')

/-- The plain program's features are the features of the leaf block. -/
theorem bias_at (a : Given) (hg : Good a) (b : Fin 2) (n : Fin 200) (q : Fin 50) (k : Fin 51) (f : Fin 4) :
    val_main_v130 (F := Ideal) a.edges a.values a.places (ix4 n q k f) = (a.leaf b n).bias f q.val k.val := by
  rw [diag_features, mean_features]
  unfold Leaf.bias
  by_cases hq : k.val = q.val
  · rw [if_pos hq, if_pos (Or.inr hq)]
  · rw [if_neg hq]
    by_cases hk : k.val = 50
    · rw [if_pos hk, if_pos (Or.inl hk)]
    · rw [if_neg hk, if_neg (not_or.mpr ⟨hk, hq⟩)]
      exact spread_at a hg b n q ⟨k.val, by omega⟩ (fun h => hq (congrArg Fin.val h).symm) k rfl f

end Cert.Proof
-- ==== Proof.RefRows.lean ====
module

public import proofs.«01_k».proof.Proof.RefMask

/-! The plain program's projected rows. -/

@[expose] public section

noncomputable section
namespace Cert.Proof

open Idealize.ShloMosaic Idealize.ShloMosaic.ValueIdx Cert.ReferenceIdeal Cert.ReferenceIdeal.Read

/-- The nodes, leaf block by leaf block. -/
theorem node_at (a : Given) (b : Fin 2) (n : Fin 200) (p : Fin 50) (c : Fin 256) :
    val_main_v131 (F := Ideal) a.x (ix4 b n p c) = (a.leaf b n).nodes p c := by
  rw [val_main_v131_apply]
  simp only [Given.leaf]
  refine congrArg a.x (funext fun x => ?_)
  match x with
  | ⟨0, _⟩ => exact Fin.ext (by show (((b.val * 200 + n.val) * 50 + p.val) * 256 + c.val) / 2560000 = b.val; omega)
  | ⟨1, _⟩ => exact Fin.ext (by show (((b.val * 200 + n.val) * 50 + p.val) * 256 + c.val) / 256 % 10000 = 50 * n.val + p.val; omega)
  | ⟨2, _⟩ => exact Fin.ext (by show (((b.val * 200 + n.val) * 50 + p.val) * 256 + c.val) % 256 = c.val; omega)

/-- The literal fifty. -/
theorem ofBits_fifty : Ideal.ofBits .f32 0x42480000#32 = ((50 : ℝ) : EReal) := by
  simp [Ideal.ofBits, Ideal.ieee]
  rw [← EReal.coe_mul]
  norm_num

/-- The mean of a leaf block's nodes. -/
theorem mean_at (a : Given) (b : Fin 2) (n : Fin 200) (c : Fin 256) :
    val_main_v135 (F := Ideal) a.x (ix4 b n 0 c) = (∑ p : Fin 50, (a.leaf b n).nodes p c) * ((1 / 50 : ℝ) : EReal) := by
  rw [val_main_v135_apply, val_main_v133_apply, val_main_v132_apply]
  show Ideal.div (Ideal.ofBits .f32 0x00000000#32 + _) (Ideal.ofBits .f32 0x42480000#32) = _
  rw [ofBits_zero, ofBits_fifty, Ideal.div_coe (by norm_num), zero_add]
  refine congrArg (· * ((1 / 50 : ℝ) : EReal)) (Finset.sum_congr rfl fun p _ => ?_)
  refine Eq.trans (congrArg (val_main_v131 (F := Ideal) a.x) (funext fun x => ?_)) (node_at a b n p c)
  match x with
  | ⟨0, _⟩ => rfl
  | ⟨1, _⟩ => rfl
  | ⟨2, _⟩ => rfl
  | ⟨3, _⟩ => rfl

/-- The keys: the nodes and their mean. -/
theorem key_at (a : Given) (b : Fin 2) (n : Fin 200) (k : Fin 51) (c : Fin 256) :
    val_main_v136 (F := Ideal) a.x (ix4 b n k c) = (a.leaf b n).key k.val c := by
  unfold val_main_v136 Leaf.key
  by_cases h : k.val < 50
  · rw [dif_pos h]
    refine (concatenate_pair_apply_left (t := S2x200x51x256) (s₁ := S2x200x50x256) (s₂ := S2x200x1x256) 2 _ _ _ (ix4 b n k c) rfl (ix4 b n ⟨k.val, h⟩ c) ?_).trans (node_at a b n ⟨k.val, h⟩ c)
    intro x
    match x with
    | ⟨0, _⟩ => rfl
    | ⟨1, _⟩ => rfl
    | ⟨2, _⟩ => rfl
    | ⟨3, _⟩ => rfl
  · rw [dif_neg h, if_pos (by omega : k.val = 50)]
    refine (concatenate_pair_apply_right (t := S2x200x51x256) (s₁ := S2x200x50x256) (s₂ := S2x200x1x256) 2 _ _ _ (ix4 b n k c) rfl rfl (ix4 b n 0 c) ?_ ?_).trans (mean_at a b n c)
    · intro x hx
      match x with
      | ⟨0, _⟩ => rfl
      | ⟨1, _⟩ => rfl
      | ⟨2, _⟩ => exact absurd rfl hx
      | ⟨3, _⟩ => rfl
    · show 0 + 50 = k.val
      omega

/-- The projected nodes. -/
theorem query_at (a : Given) (b : Fin 2) (n : Fin 200) (q : Fin 50) (c : Fin 768) :
    val_main_v140 (F := Ideal) a.x a.wq a.bq (ix4 b n q c) = (a.leaf b n).proj q.val c := by
  rw [val_main_v140_apply, val_main_v137_apply, val_main_v139_apply, val_main_v138_apply]
  unfold Leaf.proj
  refine congrArg₂ (fun u v : EReal => u + v) (Finset.sum_congr rfl fun e _ => congrArg₂ (fun u v : EReal => u * v) ?_ ?_) ?_
  · refine Eq.trans (congrArg (val_main_v131 (F := Ideal) a.x) (funext fun x => ?_)) ((node_at a b n q e).trans (by unfold Leaf.key; rw [dif_pos q.isLt]))
    match x with
    | ⟨0, _⟩ => rfl
    | ⟨1, _⟩ => rfl
    | ⟨2, _⟩ => rfl
    | ⟨3, _⟩ => rfl
  · simp only [Given.leaf]
    refine congrArg a.wq (funext fun x => ?_)
    match x with
    | ⟨0, _⟩ => rfl
    | ⟨1, _⟩ => rfl
  · simp only [Given.leaf]
    refine congrArg a.bq (funext fun x => ?_)
    match x with
    | ⟨0, _⟩ => rfl

/-- The projected keys. -/
theorem wide_at (a : Given) (b : Fin 2) (n : Fin 200) (k : Fin 51) (c : Fin 768) :
    val_main_v144 (F := Ideal) a.x a.wq a.bq (ix4 b n k c) = (a.leaf b n).proj k.val c := by
  rw [val_main_v144_apply, val_main_v141_apply, val_main_v143_apply, val_main_v142_apply]
  unfold Leaf.proj
  refine congrArg₂ (fun u v : EReal => u + v) (Finset.sum_congr rfl fun e _ => congrArg₂ (fun u v : EReal => u * v) ?_ ?_) ?_
  · refine Eq.trans (congrArg (val_main_v136 (F := Ideal) a.x) (funext fun x => ?_)) (key_at a b n k e)
    match x with
    | ⟨0, _⟩ => rfl
    | ⟨1, _⟩ => rfl
    | ⟨2, _⟩ => rfl
    | ⟨3, _⟩ => rfl
  · simp only [Given.leaf]
    refine congrArg a.wq (funext fun x => ?_)
    match x with
    | ⟨0, _⟩ => rfl
    | ⟨1, _⟩ => rfl
  · simp only [Given.leaf]
    refine congrArg a.bq (funext fun x => ?_)
    match x with
    | ⟨0, _⟩ => rfl

/-- The query part of a row. -/
theorem part_query (a : Given) (b : Fin 2) (n : Fin 200) (q : Fin 50) (h : Fin 8) (d : Fin 32) :
    val_main_v146 (F := Ideal) a.x a.wq a.bq (ix5 b n q h d) = (a.leaf b n).proj q.val (Leaf.part 0 h d) := by
  rw [val_main_v146_apply, val_main_v145_apply]
  refine Eq.trans (congrArg (val_main_v140 (F := Ideal) a.x a.wq a.bq) (funext fun x => ?_)) (query_at a b n q (Leaf.part 0 h d))
  match x with
  | ⟨0, _⟩ => exact Fin.ext (by show ((((b.val * 200 + n.val) * 50 + q.val) * 8 + h.val) * 32 + d.val) / 2560000 = b.val; omega)
  | ⟨1, _⟩ => exact Fin.ext (by show ((((b.val * 200 + n.val) * 50 + q.val) * 8 + h.val) * 32 + d.val) / 12800 % 200 = n.val; omega)
  | ⟨2, _⟩ => exact Fin.ext (by show ((((b.val * 200 + n.val) * 50 + q.val) * 8 + h.val) * 32 + d.val) / 256 % 50 = q.val; omega)
  | ⟨3, _⟩ => exact Fin.ext (by show ((((b.val * 200 + n.val) * 50 + q.val) * 8 + h.val) * 32 + d.val) % 256 = 256 * 0 + (32 * h.val + d.val); omega)

/-- The key part of a row. -/
theorem part_key (a : Given) (b : Fin 2) (n : Fin 200) (k : Fin 51) (h : Fin 8) (d : Fin 32) :
    val_main_v148 (F := Ideal) a.x a.wq a.bq (ix5 b n k h d) = (a.leaf b n).proj k.val (Leaf.part 1 h d) := by
  rw [val_main_v148_apply, val_main_v147_apply]
  refine Eq.trans (congrArg (val_main_v144 (F := Ideal) a.x a.wq a.bq) (funext fun x => ?_)) (wide_at a b n k (Leaf.part 1 h d))
  match x with
  | ⟨0, _⟩ => exact Fin.ext (by show ((((b.val * 200 + n.val) * 51 + k.val) * 8 + h.val) * 32 + d.val) / 2611200 = b.val; omega)
  | ⟨1, _⟩ => exact Fin.ext (by show ((((b.val * 200 + n.val) * 51 + k.val) * 8 + h.val) * 32 + d.val) / 13056 % 200 = n.val; omega)
  | ⟨2, _⟩ => exact Fin.ext (by show ((((b.val * 200 + n.val) * 51 + k.val) * 8 + h.val) * 32 + d.val) / 256 % 51 = k.val; omega)
  | ⟨3, _⟩ => exact Fin.ext (by show 256 + ((((b.val * 200 + n.val) * 51 + k.val) * 8 + h.val) * 32 + d.val) % 256 = 256 * 1 + (32 * h.val + d.val); omega)

/-- The value part of a row. -/
theorem part_value (a : Given) (b : Fin 2) (n : Fin 200) (k : Fin 51) (h : Fin 8) (d : Fin 32) :
    val_main_v150 (F := Ideal) a.x a.wq a.bq (ix5 b n k h d) = (a.leaf b n).proj k.val (Leaf.part 2 h d) := by
  rw [val_main_v150_apply, val_main_v149_apply]
  refine Eq.trans (congrArg (val_main_v144 (F := Ideal) a.x a.wq a.bq) (funext fun x => ?_)) (wide_at a b n k (Leaf.part 2 h d))
  match x with
  | ⟨0, _⟩ => exact Fin.ext (by show ((((b.val * 200 + n.val) * 51 + k.val) * 8 + h.val) * 32 + d.val) / 2611200 = b.val; omega)
  | ⟨1, _⟩ => exact Fin.ext (by show ((((b.val * 200 + n.val) * 51 + k.val) * 8 + h.val) * 32 + d.val) / 13056 % 200 = n.val; omega)
  | ⟨2, _⟩ => exact Fin.ext (by show ((((b.val * 200 + n.val) * 51 + k.val) * 8 + h.val) * 32 + d.val) / 256 % 51 = k.val; omega)
  | ⟨3, _⟩ => exact Fin.ext (by show 512 + ((((b.val * 200 + n.val) * 51 + k.val) * 8 + h.val) * 32 + d.val) % 256 = 256 * 2 + (32 * h.val + d.val); omega)

end Cert.Proof
-- ==== Proof.RefAttn.lean ====
module

public import proofs.«01_k».proof.Proof.RefBias
public import proofs.«01_k».proof.Proof.RefRows

/-! The plain program's attention and output. -/

@[expose] public section

noncomputable section
namespace Cert.Proof

open Idealize.ShloMosaic Idealize.ShloMosaic.ValueIdx Cert.ReferenceIdeal Cert.ReferenceIdeal.Read

open Classical in
/-- A choice by the mask. -/
theorem choose_at (a : Given) (b : Fin 2) (n : Fin 200) (q : Fin 50) (k : Fin 51) (z : S1x200x50x51x1.Idx) (hz : idx_main_v159 z = ix3 n q k) (x y : EReal) :
    Scalar.select (Ideal.cmp .oeq (val_main_v159 (F := Ideal) a.edges z) (Ideal.ofBits .f32 0x00000000#32)) x y
      = if (a.leaf b n).sees q.val k.val then y else x := by
  rw [val_main_v159_apply, hz, mask_at a b n q k, ofBits_zero]
  by_cases h : (a.leaf b n).sees q.val k.val
  · rw [if_pos h, if_pos h]
    have e : Ideal.cmp .oeq (1 : EReal) 0 = 0#1 := by
      show BitVec.ofBool (decide ((1 : EReal) = 0)) = 0#1
      rw [decide_eq_false one_ne_zero]
      rfl
    rw [e]
    rfl
  · rw [if_neg h, if_neg h]
    have e : Ideal.cmp .oeq (0 : EReal) 0 = 1#1 := by
      show BitVec.ofBool (decide ((0 : EReal) = 0)) = 1#1
      rw [decide_eq_true rfl]
      rfl
    rw [e]
    rfl

/-- The product of a query and a key. -/
theorem product_at (a : Given) (b : Fin 2) (n : Fin 200) (q : Fin 50) (k : Fin 51) (h : Fin 8) :
    val_main_v152 (F := Ideal) a.x a.wq a.bq (ix5 b n q k h)
      = ∑ d : Fin 32, (a.leaf b n).proj q.val (Leaf.part 0 h d) * (a.leaf b n).proj k.val (Leaf.part 1 h d) := by
  rw [val_main_v152_apply, val_main_v151_apply]
  refine Finset.sum_congr rfl fun d _ => (mul_comm _ _).trans (congrArg₂ (fun u v : EReal => u * v) ?_ ?_)
  · refine Eq.trans (congrArg (val_main_v146 (F := Ideal) a.x a.wq a.bq) (funext fun x => ?_)) (part_query a b n q h d)
    match x with
    | ⟨0, _⟩ => rfl
    | ⟨1, _⟩ => rfl
    | ⟨2, _⟩ => rfl
    | ⟨3, _⟩ => rfl
    | ⟨4, _⟩ => rfl
  · refine Eq.trans (congrArg (val_main_v148 (F := Ideal) a.x a.wq a.bq) (funext fun x => ?_)) (part_key a b n k h d)
    match x with
    | ⟨0, _⟩ => rfl
    | ⟨1, _⟩ => rfl
    | ⟨2, _⟩ => rfl
    | ⟨3, _⟩ => rfl
    | ⟨4, _⟩ => rfl

/-- The score's added feature. -/
theorem added_at (a : Given) (hg : Good a) (b : Fin 2) (n : Fin 200) (q : Fin 50) (k : Fin 51) (h : Fin 8) :
    val_main_v157 (F := Ideal) a.edges a.values a.places (ix5 b n q k h) = (a.leaf b n).bias 3 q.val k.val := by
  rw [val_main_v157_apply, val_main_v156_apply, val_main_v155_apply]
  refine Eq.trans (congrArg (val_main_v130 (F := Ideal) a.edges a.values a.places) (funext fun x => ?_)) (bias_at a hg b n q k 3)
  match x with
  | ⟨0, _⟩ => rfl
  | ⟨1, _⟩ => rfl
  | ⟨2, _⟩ => rfl
  | ⟨3, _⟩ => rfl

open Classical in
/-- The scores. -/
theorem score_at (a : Given) (hg : Good a) (b : Fin 2) (n : Fin 200) (q : Fin 50) (k : Fin 51) (h : Fin 8) :
    val_main_v162 (F := Ideal) a.x a.edges a.values a.places a.wq a.bq (ix5 b n q k h) = (a.leaf b n).score q.val h k.val := by
  rw [val_main_v162_apply, val_main_call6_v1_apply, val_main_v161_apply]
  refine (choose_at a b n q k _ (funext fun x => ?_) _ _).trans ?_
  · match x with
    | ⟨0, _⟩ => rfl
    | ⟨1, _⟩ => rfl
    | ⟨2, _⟩ => rfl
  · unfold Leaf.score
    refine if_congr Iff.rfl ?_ ofBits_least
    rw [val_main_v158_apply, val_main_v154_apply, product_at, added_at a hg b n q k h]
    rfl

/-- The largest entry of a row. -/
theorem reduce_peak (y : FVec Ideal S2x200x50x51x8 .f32) (b : Fin 2) (n : Fin 200) (q : Fin 50) (h : Fin 8) :
    Host.reduce FloatOps.maximumf y (val_main_cst_51 (F := Ideal)) Gen.reducesTo_S2x200x50x51x8_S2x200x50x8_d3 Gen.h_S_ (ix4 b n q h) = peak fun k : Fin 51 => y (ix5 b n q k h) := by
  rw [Host.reduce_eq_fold_single FloatOps.maximumf _ _ Gen.reducesTo_S2x200x50x51x8_S2x200x50x8_d3 (by decide) Gen.h_S_]
  show Finset.fold max (Ideal.ofBits .f32 0xFF800000#32) _ _ = _
  rw [ofBits_least]
  refine congrArg (Finset.univ.sup) (funext fun k => ?_)
  exact congrArg y (funext fun x => Fin.ext (by match x with | ⟨0, _⟩ => rfl | ⟨1, _⟩ => rfl | ⟨2, _⟩ => rfl | ⟨3, _⟩ => rfl | ⟨4, _⟩ => rfl))

/-- The largest score of a row. -/
theorem peak_at (a : Given) (hg : Good a) (b : Fin 2) (n : Fin 200) (q : Fin 50) (k : Fin 51) (h : Fin 8) :
    val_main_v167 (F := Ideal) a.x a.edges a.values a.places a.wq a.bq (ix5 b n q k h) = peak fun k : Fin 51 => (a.leaf b n).score q.val h k.val := by
  have hi : idx_main_v166 (idx_main_v167 (ix5 b n q k h)) = ix4 b n q h := funext fun x => by
    match x with
    | ⟨0, _⟩ => rfl
    | ⟨1, _⟩ => rfl
    | ⟨2, _⟩ => rfl
    | ⟨3, _⟩ => rfl
  rw [val_main_v167_apply, val_main_v166_apply, val_main_v165_apply, hi]
  show max (Ideal.ofBits .f32 0xFF800000#32) _ = _
  rw [ofBits_least]
  refine (max_eq_right bot_le).trans ((reduce_peak _ b n q h).trans ?_)
  exact congrArg peak (funext fun k => score_at a hg b n q k h)

/-- The exponentials. -/
theorem exp_at (a : Given) (hg : Good a) (b : Fin 2) (n : Fin 200) (q : Fin 50) (k : Fin 51) (h : Fin 8) :
    val_main_v169 (F := Ideal) a.x a.edges a.values a.places a.wq a.bq (ix5 b n q k h)
      = Ideal.exp ((a.leaf b n).score q.val h k.val - peak fun k : Fin 51 => (a.leaf b n).score q.val h k.val) := by
  rw [val_main_v169_apply, val_main_v168_apply, score_at a hg b n q k h, peak_at a hg b n q k h]
  rfl

/-- The sum of a row's exponentials. -/
theorem mass_at (a : Given) (hg : Good a) (b : Fin 2) (n : Fin 200) (q : Fin 50) (k : Fin 51) (h : Fin 8) :
    val_main_v172 (F := Ideal) a.x a.edges a.values a.places a.wq a.bq (ix5 b n q k h) = mass fun k : Fin 51 => (a.leaf b n).score q.val h k.val := by
  rw [val_main_v172_apply, val_main_v171_apply, val_main_v170_apply]
  show Ideal.ofBits .f32 0x00000000#32 + _ = _
  rw [ofBits_zero, zero_add]
  refine Finset.sum_congr rfl fun k _ => ?_
  refine Eq.trans (congrArg (val_main_v169 (F := Ideal) a.x a.edges a.values a.places a.wq a.bq) (funext fun x => ?_)) (exp_at a hg b n q k h)
  match x with
  | ⟨0, _⟩ => rfl
  | ⟨1, _⟩ => rfl
  | ⟨2, _⟩ => rfl
  | ⟨3, _⟩ => rfl
  | ⟨4, _⟩ => rfl

/-- The gate before the mask. -/
theorem open_at (a : Given) (hg : Good a) (b : Fin 2) (n : Fin 200) (q : Fin 50) (k : Fin 51) (h : Fin 8) :
    val_main_v177 (F := Ideal) a.edges a.values a.places a.wg a.bg (ix4 n q k h)
      = (a.leaf b n).bias 0 q.val k.val * (a.leaf b n).wg 0 h + (a.leaf b n).bias 1 q.val k.val * (a.leaf b n).wg 1 h
        + (a.leaf b n).bias 2 q.val k.val * (a.leaf b n).wg 2 h + (a.leaf b n).bias 3 q.val k.val * (a.leaf b n).wg 3 h + (a.leaf b n).bg h := by
  rw [val_main_v177_apply, val_main_v174_apply, val_main_v176_apply, val_main_v175_apply, ← Fin.sum_univ_four fun j : Fin 4 => (a.leaf b n).bias j q.val k.val * (a.leaf b n).wg j h]
  refine congrArg₂ (fun u v : EReal => u + v) (Finset.sum_congr rfl fun j _ => congrArg₂ (fun u v : EReal => u * v) ?_ ?_) ?_
  · refine Eq.trans (congrArg (val_main_v130 (F := Ideal) a.edges a.values a.places) (funext fun x => ?_)) (bias_at a hg b n q k j)
    match x with
    | ⟨0, _⟩ => rfl
    | ⟨1, _⟩ => rfl
    | ⟨2, _⟩ => rfl
    | ⟨3, _⟩ => rfl
  · simp only [Given.leaf]
    refine congrArg a.wg (funext fun x => ?_)
    match x with
    | ⟨0, _⟩ => rfl
    | ⟨1, _⟩ => rfl
  · simp only [Given.leaf]
    refine congrArg a.bg (funext fun x => ?_)
    match x with
    | ⟨0, _⟩ => rfl

open Classical in
/-- The gate. -/
theorem gate_at (a : Given) (hg : Good a) (b : Fin 2) (n : Fin 200) (q : Fin 50) (k : Fin 51) (h : Fin 8) :
    val_main_v182 (F := Ideal) a.edges a.values a.places a.wg a.bg (ix5 b n q k h) = (a.leaf b n).gate q.val h k.val := by
  rw [val_main_v182_apply, val_main_v181_apply, val_main_call7_v1_apply, val_main_v179_apply]
  refine (choose_at a b n q k _ (funext fun x => ?_) _ _).trans ?_
  · match x with
    | ⟨0, _⟩ => rfl
    | ⟨1, _⟩ => rfl
    | ⟨2, _⟩ => rfl
  · unfold Leaf.gate
    refine if_congr Iff.rfl ?_ ofBits_zero
    rw [val_main_v180_apply]
    refine Eq.trans (congrArg (val_main_v177 (F := Ideal) a.edges a.values a.places a.wg a.bg) (funext fun x => ?_)) (open_at a hg b n q k h)
    match x with
    | ⟨0, _⟩ => rfl
    | ⟨1, _⟩ => rfl
    | ⟨2, _⟩ => rfl
    | ⟨3, _⟩ => rfl

/-- The weights: the share of the mass and the gate. -/
theorem weight_at (a : Given) (hg : Good a) (b : Fin 2) (n : Fin 200) (q : Fin 50) (k : Fin 51) (h : Fin 8) :
    val_main_v183 (F := Ideal) a.x a.edges a.values a.places a.wq a.bq a.wg a.bg (ix5 b n q k h)
      = Ideal.div (Ideal.exp ((a.leaf b n).score q.val h k.val - peak fun k : Fin 51 => (a.leaf b n).score q.val h k.val)) (mass fun k : Fin 51 => (a.leaf b n).score q.val h k.val)
        + (a.leaf b n).gate q.val h k.val := by
  rw [val_main_v183_apply, val_main_v173_apply, exp_at a hg b n q k h, mass_at a hg b n q k h, gate_at a hg b n q k h]
  rfl

/-- The attention of a query, head by head. -/
theorem head_at (a : Given) (hg : Good a) (b : Fin 2) (n : Fin 200) (q : Fin 50) (h : Fin 8) (d : Fin 32) :
    val_main_v185 (F := Ideal) a.x a.edges a.values a.places a.wq a.bq a.wg a.bg (ix5 b n q h d) = (a.leaf b n).head q.val h d := by
  rw [val_main_v185_apply, val_main_v184_apply]
  unfold Leaf.head mix
  refine Finset.sum_congr rfl fun k _ => (mul_comm _ _).trans (congrArg₂ (fun u v : EReal => u * v) ?_ ?_)
  · refine Eq.trans (congrArg (val_main_v183 (F := Ideal) a.x a.edges a.values a.places a.wq a.bq a.wg a.bg) (funext fun x => ?_)) (weight_at a hg b n q k h)
    match x with
    | ⟨0, _⟩ => rfl
    | ⟨1, _⟩ => rfl
    | ⟨2, _⟩ => rfl
    | ⟨3, _⟩ => rfl
    | ⟨4, _⟩ => rfl
  · refine Eq.trans (congrArg (val_main_v150 (F := Ideal) a.x a.wq a.bq) (funext fun x => ?_)) (part_value a b n k h d)
    match x with
    | ⟨0, _⟩ => rfl
    | ⟨1, _⟩ => rfl
    | ⟨2, _⟩ => rfl
    | ⟨3, _⟩ => rfl
    | ⟨4, _⟩ => rfl

/-- The heads side by side. -/
theorem heads_at (a : Given) (hg : Good a) (b : Fin 2) (n : Fin 200) (q : Fin 50) (e : Fin 256) :
    val_main_v186 (F := Ideal) a.x a.edges a.values a.places a.wq a.bq a.wg a.bg (ix4 b n q e) = (a.leaf b n).head q.val ⟨e.val / 32, by omega⟩ ⟨e.val % 32, by omega⟩ := by
  rw [val_main_v186_apply]
  refine Eq.trans (congrArg (val_main_v185 (F := Ideal) a.x a.edges a.values a.places a.wq a.bq a.wg a.bg) (funext fun x => ?_))
    (head_at a hg b n q ⟨e.val / 32, by omega⟩ ⟨e.val % 32, by omega⟩)
  match x with
  | ⟨0, _⟩ => exact Fin.ext (by show (((b.val * 200 + n.val) * 50 + q.val) * 256 + e.val) / 2560000 = b.val; omega)
  | ⟨1, _⟩ => exact Fin.ext (by show (((b.val * 200 + n.val) * 50 + q.val) * 256 + e.val) / 12800 % 200 = n.val; omega)
  | ⟨2, _⟩ => exact Fin.ext (by show (((b.val * 200 + n.val) * 50 + q.val) * 256 + e.val) / 256 % 50 = q.val; omega)
  | ⟨3, _⟩ => exact Fin.ext (by show (((b.val * 200 + n.val) * 50 + q.val) * 256 + e.val) / 32 % 8 = e.val / 32; omega)
  | ⟨4, _⟩ => exact Fin.ext (by show (((b.val * 200 + n.val) * 50 + q.val) * 256 + e.val) % 32 = e.val % 32; omega)

/-- The plain program's result. -/
theorem plain_result (a : Given) (hg : Good a) :
    val_main_v190 (F := Ideal) a.x a.edges a.values a.places a.wq a.bq a.wp a.bp a.wg a.bg = a.result := by
  funext y
  obtain ⟨b, n, q, c, rfl⟩ : ∃ (b : Fin 2) (n : Fin 200) (q : Fin 50) (c : Fin 256), y = ix4 b n q c := ⟨y 0, y 1, y 2, y 3, eq_ix4 y⟩
  rw [val_main_v190_apply, val_main_v187_apply, val_main_v189_apply, val_main_v188_apply]
  show _ = (a.leaf b n).out (fun e c => a.wp (ix2 e c)) (fun c => a.bp (ix1 c)) q.val c
  unfold Leaf.out
  refine congrArg₂ (fun u v : EReal => u + v) (Finset.sum_congr rfl fun e _ => congrArg₂ (fun u v : EReal => u * v) ?_ ?_) ?_
  · refine Eq.trans (congrArg (val_main_v186 (F := Ideal) a.x a.edges a.values a.places a.wq a.bq a.wg a.bg) (funext fun x => ?_)) (heads_at a hg b n q e)
    match x with
    | ⟨0, _⟩ => rfl
    | ⟨1, _⟩ => rfl
    | ⟨2, _⟩ => rfl
    | ⟨3, _⟩ => rfl
  · refine congrArg a.wp (funext fun x => ?_)
    match x with
    | ⟨0, _⟩ => rfl
    | ⟨1, _⟩ => rfl
  · refine congrArg a.bp (funext fun x => ?_)
    match x with
    | ⟨0, _⟩ => rfl

end Cert.Proof
-- ==== Proof.lean ====
/- The claim, assembled from the modules under Proof/. -/
module

public import proofs.«01_k».proof.Defs
public import proofs.«01_k».proof.Proof.Frames
public import proofs.«01_k».proof.Proof.KValue
public import proofs.«01_k».proof.Proof.RefAttn

@[expose] public section

namespace Cert.Proof

open Idealize.ShloMosaic

/-- The numbers the plain program is given. -/
def plainAt (m : (ℓ : Loc Cert.ReferenceIdeal.nD Cert.ReferenceIdeal.τ Cert.ReferenceIdeal.sig) → Buf (Elt Ideal) ℓ) (c : Dev Cert.ReferenceIdeal.nD) : Given :=
  ⟨m (c.tc.loc Cert.ReferenceIdeal.main_arg0), m (c.tc.loc Cert.ReferenceIdeal.main_arg1), m (c.tc.loc Cert.ReferenceIdeal.main_arg2),
    m (c.tc.loc Cert.ReferenceIdeal.main_arg3), m (c.tc.loc Cert.ReferenceIdeal.main_arg4), m (c.tc.loc Cert.ReferenceIdeal.main_arg5),
    m (c.tc.loc Cert.ReferenceIdeal.main_arg6), m (c.tc.loc Cert.ReferenceIdeal.main_arg7), m (c.tc.loc Cert.ReferenceIdeal.main_arg8),
    m (c.tc.loc Cert.ReferenceIdeal.main_arg9)⟩

/-- The two programs are given the same numbers. -/
theorem same_given (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h3 : m' (c.tc.loc Cert.ReferenceIdeal.main_arg3) = m (c.tc.loc Cert.KernelIdeal.main_arg3))
    (h4 : m' (c.tc.loc Cert.ReferenceIdeal.main_arg4) = m (c.tc.loc Cert.KernelIdeal.main_arg4))
    (h5 : m' (c.tc.loc Cert.ReferenceIdeal.main_arg5) = m (c.tc.loc Cert.KernelIdeal.main_arg5))
    (h6 : m' (c.tc.loc Cert.ReferenceIdeal.main_arg6) = m (c.tc.loc Cert.KernelIdeal.main_arg6))
    (h7 : m' (c.tc.loc Cert.ReferenceIdeal.main_arg7) = m (c.tc.loc Cert.KernelIdeal.main_arg7))
    (h8 : m' (c.tc.loc Cert.ReferenceIdeal.main_arg8) = m (c.tc.loc Cert.KernelIdeal.main_arg8))
    (h9 : m' (c.tc.loc Cert.ReferenceIdeal.main_arg9) = m (c.tc.loc Cert.KernelIdeal.main_arg9)) : plainAt m' c = kernelGiven m c := by
  unfold plainAt kernelGiven
  rw [h0, h1, h2, h3, h4, h5, h6, h7, h8, h9]

/-- The two programs end with the same result. -/
theorem same_result : Cert.algebraic_KernelIdeal_ReferenceIdeal_pre_single_edges_and_finite
    (hKernelIdeal := Cert.KernelIdeal.Gen.facts) (hReferenceIdeal := Cert.ReferenceIdeal.Gen.facts) (hPre_single_edges_and_finite := preFacts) := by
  intro m g m' g' hpre hargs
  have hgood : ∀ c, Good (kernelGiven m c) := fun c => good_of_pre (kernelGiven m c) (hpre c)
  refine ⟨fun c => (kernelGiven m c).result, ?_, ?_⟩
  · refine (θ_run _ _ _).mono (fun _ h c => ?_) (Cert.KernelIdeal.Value.run_blocks m g)
    exact ⟨(h c).1.trans (kernel_result m c (hgood c).tame), (h c).2⟩
  · refine (θ_run _ _ _).mono (fun _ h c => ?_) (Cert.ReferenceIdeal.Value.run (F := Ideal) m' g')
    refine ⟨(h c).1.trans ?_, (h c).2⟩
    obtain ⟨h0, h1, h2, h3, h4, h5, h6, h7, h8, h9⟩ := hargs c
    have hs := same_given m m' c h0 h1 h2 h3 h4 h5 h6 h7 h8 h9
    have hr := (plain_result (plainAt m' c) (hs ▸ hgood c)).trans (congrArg Given.result hs)
    exact (Cert.ReferenceIdeal.Read.val_main_v190_eq (F := Ideal) (StableHlo.launchContents m' c)).trans hr

/-- Everything claimed in the statement. -/
theorem claim : Cert.Claim :=
  ⟨Cert.Kernel.Gen.facts, Cert.KernelIdeal.Gen.facts, Cert.ReferenceIdeal.Gen.facts, preFacts,
    frame_kernel, frame_kernelIdeal, fun m g _ => frame_kernelIdeal m g trivial,
    frame_reference, fun m g _ => frame_reference m g trivial, constants, same_result⟩

end Cert.Proof
